-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v132) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_experts_named.lean ====
abbrev S36864x2048 : Shape := ⟨2, ![36864, 2048]⟩
abbrev S72 : Shape := ⟨1, ![72]⟩
abbrev S1 : Shape := ⟨1, ![1]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x2048 .bf16) (main_arg1 : IVec S72 32) (main_arg2 : IVec S1 32) (main_arg3 : FVec F S8x2048x4096 .f32) (main_arg4 : FVec F S8x2048x4096 .f32) (main_arg5 : FVec F S8x4096x2048 .f32) : IVec S72 1 × IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  (main_v1, main_v3)
-- ==== Kernel.lean ====
abbrev S16384x4608 : Shape := ⟨2, ![16384, 4608]⟩
abbrev S128 : Shape := ⟨1, ![128]⟩
abbrev S1024 : Shape := ⟨1, ![1024]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x128 : Shape := ⟨2, ![1, 128]⟩
abbrev S1x1024 : Shape := ⟨2, ![1, 1024]⟩
abbrev S16384x1024 : Shape := ⟨2, ![16384, 1024]⟩
abbrev S512x512 : Shape := ⟨2, ![512, 512]⟩
abbrev S1x512 : Shape := ⟨2, ![1, 512]⟩
abbrev S128x2048 : Shape := ⟨2, ![128, 2048]⟩
abbrev S512x128 : Shape := ⟨2, ![512, 128]⟩
abbrev S512 : Shape := ⟨1, ![512]⟩
abbrev S512x1 : Shape := ⟨2, ![512, 1]⟩
abbrev S512x2048 : Shape := ⟨2, ![512, 2048]⟩

abbrev nBuf : Space → Nat
  | .hbm => 109
  | .vmem => 16
  | .smem => 0
  | _ => 0

abbrev bufTy : (tb : Table) → Fin (tcTables nBuf tb) → BufTy
  | .hbm, ⟨0, _⟩ => ⟨S16384x4608, .bf16⟩
  | .hbm, ⟨1, _⟩ => ⟨S128, .f32⟩
  | .hbm, ⟨2, _⟩ => ⟨S128, .f32⟩
  | .hbm, ⟨3, _⟩ => ⟨S1024, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S_, .i1⟩
  | .hbm, ⟨40, _⟩ => ⟨S2048, .i1⟩
  | .hbm, ⟨41, _⟩ => ⟨S2048, .i1⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x1, .f32⟩
  | .hbm, ⟨61, _⟩ => ⟨S1x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S128, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S_, .i32⟩
  | .hbm, ⟨78, _⟩ => ⟨S128, .i32⟩
  | .hbm, ⟨79, _⟩ => ⟨S128, .i1⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S_, .i32⟩
  | .hbm, ⟨84, _⟩ => ⟨S_, .i1⟩
  | .hbm, ⟨85, _⟩ => ⟨S128, .i1⟩
  | .hbm, ⟨86, _⟩ => ⟨S128, .i1⟩
  | .hbm, ⟨87, _⟩ => ⟨S128, .i1⟩
  | .hbm, ⟨88, _⟩ => ⟨S128, .i32⟩
  | .hbm, ⟨89, _⟩ => ⟨S128, .i32⟩
  | .hbm, ⟨90, _⟩ => ⟨S128, .i32⟩
  | .hbm, ⟨91, _⟩ => ⟨S_, .i32⟩
  | .hbm, ⟨92, _⟩ => ⟨S128, .i32⟩
  | .hbm, ⟨93, _⟩ => ⟨S128, .i1⟩
  | .hbm, ⟨94, _⟩ => ⟨S2048x128, .f32⟩
  | .hbm, ⟨95, _⟩ => ⟨S_, .f32⟩
  | .hbm, ⟨96, _⟩ => ⟨S_, .f32⟩
  | .hbm, ⟨97, _⟩ => ⟨S2048x128, .i1⟩
  | .hbm, ⟨98, _⟩ => ⟨S2048x128, .f32⟩
  | .hbm, ⟨99, _⟩ => ⟨S2048x128, .f32⟩
  | .hbm, ⟨100, _⟩ => ⟨S_, .f32⟩
  | .hbm, ⟨101, _⟩ => ⟨S_, .f32⟩
  | .hbm, ⟨102, _⟩ => ⟨S2048x128, .i1⟩
  | .hbm, ⟨103, _⟩ => ⟨S2048x128, .f32⟩
  | .hbm, ⟨104, _⟩ => ⟨S2048x128, .f32⟩
  | .hbm, ⟨105, _⟩ => ⟨S1x128, .f32⟩
  | .hbm, ⟨106, _⟩ => ⟨S1x128, .f32⟩
  | .hbm, ⟨107, _⟩ => ⟨S1x1024, .f32⟩
  | .hbm, ⟨108, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S1x128, .f32⟩
  | .local _ .vmem, ⟨10, _⟩ => ⟨S1x128, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .bf16⟩
  | .local _ .vmem, ⟨15, _⟩ => ⟨S128x2048, .bf16⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_2 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_v5 : Ref sig .tc := ⟨.hbm, 78, rfl⟩
abbrev main_call2_v6 : Ref sig .tc := ⟨.hbm, 79, rfl⟩
abbrev main_call2_c_2 : Ref sig .tc := ⟨.hbm, 80, rfl⟩
abbrev main_call2_v7 : Ref sig .tc := ⟨.hbm, 81, rfl⟩
abbrev main_call2_v8 : Ref sig .tc := ⟨.hbm, 82, rfl⟩
abbrev main_call2_c_3 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_v25 : Ref sig .tc := ⟨.hbm, 90, rfl⟩
abbrev main_c_3 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_cst_4 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v29 : Ref sig .tc := ⟨.hbm, 99, rfl⟩
abbrev main_cst_5 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c512_i32 : BitVec 32 := 512#32
  let v3 : BitVec 32 := Scalar.muli arg2 c512_i32
  v3
def k0_off1 (i : grid0.Coords) : Fin 2 → Nat :=
  let arg2 : BitVec 32 := BitVec.ofNat 32 (i 2).val
  let c512_i32 : BitVec 32 := 512#32
  let v3 : BitVec 32 := Scalar.muli arg2 c512_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S16384x4608 : Shape := ⟨2, ![16384, 4608]⟩
abbrev S128 : Shape := ⟨1, ![128]⟩
abbrev S1024 : Shape := ⟨1, ![1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x2048x4608 : Shape := ⟨3, ![8, 2048, 4608]⟩
abbrev S8x2048x1024 : Shape := ⟨3, ![8, 2048, 1024]⟩
abbrev S8x2048x256 : Shape := ⟨3, ![8, 2048, 256]⟩
abbrev S8x2048x8x128 : Shape := ⟨4, ![8, 2048, 8, 128]⟩
abbrev S8x2048x2x128 : Shape := ⟨4, ![8, 2048, 2, 128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S1x2048x1x128 : Shape := ⟨4, ![1, 2048, 1, 128]⟩
abbrev S8x2048x8x2x2x32 : Shape := ⟨6, ![8, 2048, 8, 2, 2, 32]⟩
abbrev S8x2048x8x2x1x32 : Shape := ⟨6, ![8, 2048, 8, 2, 1, 32]⟩
abbrev S8x2048x8x2x32 : Shape := ⟨5, ![8, 2048, 8, 2, 32]⟩
abbrev S8x2048x2 : Shape := ⟨3, ![8, 2048, 2]⟩
abbrev S8x2048x2x1 : Shape := ⟨4, ![8, 2048, 2, 1]⟩
abbrev S8x2048x2x2x2x32 : Shape := ⟨6, ![8, 2048, 2, 2, 2, 32]⟩
abbrev S8x2048x2x2x1x32 : Shape := ⟨6, ![8, 2048, 2, 2, 1, 32]⟩
abbrev S8x2048x2x2x32 : Shape := ⟨5, ![8, 2048, 2, 2, 32]⟩
abbrev S8x2048x2x4x128 : Shape := ⟨5, ![8, 2048, 2, 4, 128]⟩
abbrev S8x2x2048x2048x4 : Shape := ⟨5, ![8, 2, 2048, 2048, 4]⟩
abbrev S8x2x4x2048x2048 : Shape := ⟨5, ![8, 2, 4, 2048, 2048]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩
abbrev S1x1x1024 : Shape := ⟨3, ![1, 1, 1024]⟩
abbrev S16384x1024 : Shape := ⟨2, ![16384, 1024]⟩

abbrev nBuf : Space → Nat
  | .hbm => 154
  | .vmem => 0
  | .smem => 0
  | _ => 0

abbrev hbmTy0_0 (i : Nat) : BufTy := match i % 128 with
  | 0 => ⟨S16384x4608, .bf16⟩
  | 1 => ⟨S128, .f32⟩
  | 2 => ⟨S128, .f32⟩
  | 3 => ⟨S1024, .f32⟩
  | 4 => ⟨S32, .f32⟩
  | 5 => ⟨S32x64, .f32⟩
  | 6 => ⟨S2048, .f32⟩
  | 7 => ⟨S64, .f32⟩
  | 8 => ⟨S1x64, .f32⟩
  | 9 => ⟨S32x64, .f32⟩
  | 10 => ⟨S2048, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2048x1, .f32⟩
  | 20 => ⟨S1x32, .f32⟩
  | 21 => ⟨S2048x32, .f32⟩
  | 22 => ⟨S2048x32, .f32⟩
  | 23 => ⟨S2048x32, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x128, .f32⟩
  | 30 => ⟨S2048x128, .f32⟩
  | 31 => ⟨S2048x128, .f32⟩
  | 32 => ⟨S16384x4608, .f32⟩
  | 33 => ⟨S8x2048x4608, .f32⟩
  | 34 => ⟨S8x2048x1024, .f32⟩
  | 35 => ⟨S8x2048x256, .f32⟩
  | 36 => ⟨S8x2048x256, .f32⟩
  | 37 => ⟨S8x2048x8x128, .f32⟩
  | 38 => ⟨S8x2048x2x128, .f32⟩
  | 39 => ⟨S8x2048x2x128, .f32⟩
  | 40 => ⟨S8x2048x8x128, .f32⟩
  | 41 => ⟨S_, .f32⟩
  | 42 => ⟨S8x2048x8, .f32⟩
  | 43 => ⟨S8x2048x8x1, .f32⟩
  | 44 => ⟨S_, .f32⟩
  | 45 => ⟨S8x2048x8x1, .f32⟩
  | 46 => ⟨S8x2048x8x1, .f32⟩
  | 47 => ⟨S_, .f32⟩
  | 48 => ⟨S8x2048x8x1, .f32⟩
  | 49 => ⟨S8x2048x8x1, .f32⟩
  | 50 => ⟨S8x2048x8x1, .f32⟩
  | 51 => ⟨S8x2048x8x128, .f32⟩
  | 52 => ⟨S8x2048x8x128, .f32⟩
  | 53 => ⟨S1x1x1x128, .f32⟩
  | 54 => ⟨S8x2048x8x128, .f32⟩
  | 55 => ⟨S8x2048x8x128, .f32⟩
  | 56 => ⟨S1x2048x1x128, .f32⟩
  | 57 => ⟨S8x2048x8x128, .f32⟩
  | 58 => ⟨S8x2048x8x128, .f32⟩
  | 59 => ⟨S8x2048x8x2x2x32, .f32⟩
  | 60 => ⟨S8x2048x8x2x1x32, .f32⟩
  | 61 => ⟨S8x2048x8x2x32, .f32⟩
  | 62 => ⟨S8x2048x8x2x32, .f32⟩
  | 63 => ⟨S8x2048x8x2x1x32, .f32⟩
  | 64 => ⟨S8x2048x8x2x32, .f32⟩
  | 65 => ⟨S8x2048x8x2x1x32, .f32⟩
  | 66 => ⟨S8x2048x8x2x1x32, .f32⟩
  | 67 => ⟨S8x2048x8x2x2x32, .f32⟩
  | 68 => ⟨S8x2048x8x128, .f32⟩
  | 69 => ⟨S1x2048x1x128, .f32⟩
  | 70 => ⟨S8x2048x8x128, .f32⟩
  | 71 => ⟨S8x2048x8x128, .f32⟩
  | 72 => ⟨S8x2048x8x128, .f32⟩
  | 73 => ⟨S8x2048x2x128, .f32⟩
  | 74 => ⟨S_, .f32⟩
  | 75 => ⟨S8x2048x2, .f32⟩
  | 76 => ⟨S8x2048x2x1, .f32⟩
  | 77 => ⟨S_, .f32⟩
  | 78 => ⟨S8x2048x2x1, .f32⟩
  | 79 => ⟨S8x2048x2x1, .f32⟩
  | 80 => ⟨S_, .f32⟩
  | 81 => ⟨S8x2048x2x1, .f32⟩
  | 82 => ⟨S8x2048x2x1, .f32⟩
  | 83 => ⟨S8x2048x2x1, .f32⟩
  | 84 => ⟨S8x2048x2x128, .f32⟩
  | 85 => ⟨S8x2048x2x128, .f32⟩
  | 86 => ⟨S1x1x1x128, .f32⟩
  | 87 => ⟨S8x2048x2x128, .f32⟩
  | 88 => ⟨S8x2048x2x128, .f32⟩
  | 89 => ⟨S1x2048x1x128, .f32⟩
  | 90 => ⟨S8x2048x2x128, .f32⟩
  | 91 => ⟨S8x2048x2x128, .f32⟩
  | 92 => ⟨S8x2048x2x2x2x32, .f32⟩
  | 93 => ⟨S8x2048x2x2x1x32, .f32⟩
  | 94 => ⟨S8x2048x2x2x32, .f32⟩
  | 95 => ⟨S8x2048x2x2x32, .f32⟩
  | 96 => ⟨S8x2048x2x2x1x32, .f32⟩
  | 97 => ⟨S8x2048x2x2x32, .f32⟩
  | 98 => ⟨S8x2048x2x2x1x32, .f32⟩
  | 99 => ⟨S8x2048x2x2x1x32, .f32⟩
  | 100 => ⟨S8x2048x2x2x2x32, .f32⟩
  | 101 => ⟨S8x2048x2x128, .f32⟩
  | 102 => ⟨S1x2048x1x128, .f32⟩
  | 103 => ⟨S8x2048x2x128, .f32⟩
  | 104 => ⟨S8x2048x2x128, .f32⟩
  | 105 => ⟨S8x2048x2x128, .f32⟩
  | 106 => ⟨S8x2048x2x4x128, .f32⟩
  | 107 => ⟨S8x2x2048x2048x4, .f32⟩
  | 108 => ⟨S8x2x4x2048x2048, .f32⟩
  | 109 => ⟨S_, .f32⟩
  | 110 => ⟨S8x2x4x2048x2048, .f32⟩
  | 111 => ⟨S8x2x4x2048x2048, .f32⟩
  | 112 => ⟨S_, .f32⟩
  | 113 => ⟨S8x2x4x2048, .f32⟩
  | 114 => ⟨S_, .f32⟩
  | 115 => ⟨S8x2x4x2048, .f32⟩
  | 116 => ⟨S8x2x4x2048, .f32⟩
  | 117 => ⟨S8x2x4x2048x1, .f32⟩
  | 118 => ⟨S8x2x4x2048x2048, .f32⟩
  | 119 => ⟨S8x2x4x2048x2048, .f32⟩
  | 120 => ⟨S8x2x4x2048x2048, .f32⟩
  | 121 => ⟨S_, .f32⟩
  | 122 => ⟨S8x2x4x2048, .f32⟩
  | 123 => ⟨S8x2x4x2048x1, .f32⟩
  | 124 => ⟨S8x2x4x2048x2048, .f32⟩
  | 125 => ⟨S8x2x4x2048x2048, .f32⟩
  | 126 => ⟨S8x2x128x4x2048, .f32⟩
  | 127 => ⟨S8x2048x2x4x128, .f32⟩
  | _ => ⟨S16384x4608, .bf16⟩

abbrev hbmTy0_1 (i : Nat) : BufTy := match i % 128 with
  | 0 => ⟨S8x2048x1024, .f32⟩
  | 1 => ⟨S8x2048x8x128, .f32⟩
  | 2 => ⟨S_, .f32⟩
  | 3 => ⟨S128, .f32⟩
  | 4 => ⟨S8x2048x8x128, .f32⟩
  | 5 => ⟨S_, .f32⟩
  | 6 => ⟨S8x2048x8, .f32⟩
  | 7 => ⟨S8x2048x8x1, .f32⟩
  | 8 => ⟨S_, .f32⟩
  | 9 => ⟨S8x2048x8x1, .f32⟩
  | 10 => ⟨S8x2048x8x1, .f32⟩
  | 11 => ⟨S_, .f32⟩
  | 12 => ⟨S8x2048x8x1, .f32⟩
  | 13 => ⟨S8x2048x8x1, .f32⟩
  | 14 => ⟨S8x2048x8x1, .f32⟩
  | 15 => ⟨S8x2048x8x128, .f32⟩
  | 16 => ⟨S8x2048x8x128, .f32⟩
  | 17 => ⟨S1x1x1x128, .f32⟩
  | 18 => ⟨S8x2048x8x128, .f32⟩
  | 19 => ⟨S8x2048x8x128, .f32⟩
  | 20 => ⟨S8x2048x1024, .f32⟩
  | 21 => ⟨S1x1x1024, .f32⟩
  | 22 => ⟨S8x2048x1024, .f32⟩
  | 23 => ⟨S8x2048x1024, .f32⟩
  | 24 => ⟨S16384x1024, .f32⟩
  | 25 => ⟨S16384x1024, .bf16⟩
  | _ => ⟨S16384x4608, .bf16⟩

abbrev hbmTy (i : Nat) : BufTy := match i / 128 with
  | 0 => hbmTy0_0 i
  | 1 => hbmTy0_1 i
  | _ => ⟨S16384x4608, .bf16⟩

abbrev bufTy : (tb : Table) → Fin (tcTables nBuf tb) → BufTy
  | .hbm, ⟨i, _⟩ => hbmTy i
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_4 : Ref sig .tc := ⟨.hbm, 74, rfl⟩
abbrev main_v65 : Ref sig .tc := ⟨.hbm, 75, rfl⟩
abbrev main_v66 : Ref sig .tc := ⟨.hbm, 76, rfl⟩
abbrev main_cst_5 : Ref sig .tc := ⟨.hbm, 77, rfl⟩
abbrev main_v67 : Ref sig .tc := ⟨.hbm, 78, rfl⟩
abbrev main_v68 : Ref sig .tc := ⟨.hbm, 79, rfl⟩
abbrev main_cst_6 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_7 : Ref sig .tc := ⟨.hbm, 109, rfl⟩
abbrev main_v97 : Ref sig .tc := ⟨.hbm, 110, rfl⟩
abbrev main_v98 : Ref sig .tc := ⟨.hbm, 111, rfl⟩
abbrev main_cst_8 : Ref sig .tc := ⟨.hbm, 112, rfl⟩
abbrev main_v99 : Ref sig .tc := ⟨.hbm, 113, rfl⟩
abbrev main_cst_9 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_cst_10 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_cst_11 : Ref sig .tc := ⟨.hbm, 130, rfl⟩
abbrev main_v114 : Ref sig .tc := ⟨.hbm, 131, rfl⟩
abbrev main_v115 : Ref sig .tc := ⟨.hbm, 132, rfl⟩
abbrev main_cst_12 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_v118 : Ref sig .tc := ⟨.hbm, 137, rfl⟩
abbrev main_v119 : Ref sig .tc := ⟨.hbm, 138, rfl⟩
abbrev main_cst_14 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩

abbrev nD : Nat := 1
abbrev τ : Topo := Topo.v7x

variable {F : FTy → Type} [FloatOps F]
-- ==== Kernel2.lean ====
abbrev S36864x2048 : Shape := ⟨2, ![36864, 2048]⟩
abbrev S72 : Shape := ⟨1, ![72]⟩
abbrev S1 : Shape := ⟨1, ![1]⟩
abbrev S8x2048x4096 : Shape := ⟨3, ![8, 2048, 4096]⟩
abbrev S8x4096x2048 : Shape := ⟨3, ![8, 4096, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 8
  | .vmem => 10
  | .smem => 2
  | _ => 0

abbrev bufTy : (tb : Table) → Fin (tcTables nBuf tb) → BufTy
  | .hbm, ⟨0, _⟩ => ⟨S36864x2048, .bf16⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x4096, .bf16⟩
  | .hbm, ⟨5, _⟩ => ⟨S8x2048x4096, .bf16⟩
  | .hbm, ⟨6, _⟩ => ⟨S8x4096x2048, .bf16⟩
  | .hbm, ⟨7, _⟩ => ⟨S36864x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .smem, ⟨0, _⟩ => ⟨S72, .i32⟩
  | .local _ .smem, ⟨1, _⟩ => ⟨S1, .i32⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S36864x2048 : Shape := ⟨2, ![36864, 2048]⟩
abbrev S72 : Shape := ⟨1, ![72]⟩
abbrev S1 : Shape := ⟨1, ![1]⟩
abbrev S8x2048x4096 : Shape := ⟨3, ![8, 2048, 4096]⟩
abbrev S8x4096x2048 : Shape := ⟨3, ![8, 4096, 2048]⟩
abbrev S_ : Shape := ⟨0, ![]⟩
abbrev S72x1 : Shape := ⟨2, ![72, 1]⟩
abbrev S1x8 : Shape := ⟨2, ![1, 8]⟩
abbrev S72x8 : Shape := ⟨2, ![72, 8]⟩
abbrev S72x512x8 : Shape := ⟨3, ![72, 512, 8]⟩
abbrev S36864x8 : Shape := ⟨2, ![36864, 8]⟩
abbrev S36864x1 : Shape := ⟨2, ![36864, 1]⟩
abbrev S1x2048x4096 : Shape := ⟨3, ![1, 2048, 4096]⟩
abbrev S2048x4096 : Shape := ⟨2, ![2048, 4096]⟩
abbrev S1x4096x2048 : Shape := ⟨3, ![1, 4096, 2048]⟩
abbrev S4096x2048 : Shape := ⟨2, ![4096, 2048]⟩
abbrev S36864x4096 : Shape := ⟨2, ![36864, 4096]⟩

abbrev nBuf : Space → Nat
  | .hbm => 209
  | .vmem => 0
  | .smem => 0
  | _ => 0

abbrev hbmTy0_0 (i : Nat) : BufTy := match i % 128 with
  | 0 => ⟨S36864x2048, .bf16⟩
  | 1 => ⟨S72, .i32⟩
  | 2 => ⟨S1, .i32⟩
  | 3 => ⟨S8x2048x4096, .f32⟩
  | 4 => ⟨S8x2048x4096, .f32⟩
  | 5 => ⟨S8x4096x2048, .f32⟩
  | 6 => ⟨S36864x2048, .f32⟩
  | 7 => ⟨S72, .i32⟩
  | 8 => ⟨S_, .i32⟩
  | 9 => ⟨S72, .i32⟩
  | 10 => ⟨S72, .i1⟩
  | 11 => ⟨S72x1, .i32⟩
  | 12 => ⟨S1x8, .i32⟩
  | 13 => ⟨S72x8, .i32⟩
  | 14 => ⟨S72x8, .i32⟩
  | 15 => ⟨S72x8, .i1⟩
  | 16 => ⟨S72x8, .f32⟩
  | 17 => ⟨S72x1, .i1⟩
  | 18 => ⟨S72x1, .f32⟩
  | 19 => ⟨S72x8, .f32⟩
  | 20 => ⟨S72x8, .f32⟩
  | 21 => ⟨S72x512x8, .f32⟩
  | 22 => ⟨S36864x8, .f32⟩
  | 23 => ⟨S_, .f32⟩
  | 24 => ⟨S36864x2048, .f32⟩
  | 25 => ⟨S36864x1, .f32⟩
  | 26 => ⟨S1x2048x4096, .f32⟩
  | 27 => ⟨S2048x4096, .f32⟩
  | 28 => ⟨S1x2048x4096, .f32⟩
  | 29 => ⟨S2048x4096, .f32⟩
  | 30 => ⟨S1x4096x2048, .f32⟩
  | 31 => ⟨S4096x2048, .f32⟩
  | 32 => ⟨S36864x4096, .f32⟩
  | 33 => ⟨S36864x4096, .f32⟩
  | 34 => ⟨S36864x4096, .f32⟩
  | 35 => ⟨S_, .f32⟩
  | 36 => ⟨S36864x4096, .f32⟩
  | 37 => ⟨S36864x4096, .f32⟩
  | 38 => ⟨S_, .f32⟩
  | 39 => ⟨S36864x4096, .f32⟩
  | 40 => ⟨S36864x4096, .f32⟩
  | 41 => ⟨S36864x4096, .f32⟩
  | 42 => ⟨S36864x4096, .f32⟩
  | 43 => ⟨S36864x4096, .f32⟩
  | 44 => ⟨S36864x2048, .f32⟩
  | 45 => ⟨S36864x2048, .f32⟩
  | 46 => ⟨S36864x2048, .f32⟩
  | 47 => ⟨S36864x2048, .f32⟩
  | 48 => ⟨S36864x1, .f32⟩
  | 49 => ⟨S1x2048x4096, .f32⟩
  | 50 => ⟨S2048x4096, .f32⟩
  | 51 => ⟨S1x2048x4096, .f32⟩
  | 52 => ⟨S2048x4096, .f32⟩
  | 53 => ⟨S1x4096x2048, .f32⟩
  | 54 => ⟨S4096x2048, .f32⟩
  | 55 => ⟨S36864x4096, .f32⟩
  | 56 => ⟨S36864x4096, .f32⟩
  | 57 => ⟨S36864x4096, .f32⟩
  | 58 => ⟨S_, .f32⟩
  | 59 => ⟨S36864x4096, .f32⟩
  | 60 => ⟨S36864x4096, .f32⟩
  | 61 => ⟨S_, .f32⟩
  | 62 => ⟨S36864x4096, .f32⟩
  | 63 => ⟨S36864x4096, .f32⟩
  | 64 => ⟨S36864x4096, .f32⟩
  | 65 => ⟨S36864x4096, .f32⟩
  | 66 => ⟨S36864x4096, .f32⟩
  | 67 => ⟨S36864x2048, .f32⟩
  | 68 => ⟨S36864x2048, .f32⟩
  | 69 => ⟨S36864x2048, .f32⟩
  | 70 => ⟨S36864x2048, .f32⟩
  | 71 => ⟨S36864x1, .f32⟩
  | 72 => ⟨S1x2048x4096, .f32⟩
  | 73 => ⟨S2048x4096, .f32⟩
  | 74 => ⟨S1x2048x4096, .f32⟩
  | 75 => ⟨S2048x4096, .f32⟩
  | 76 => ⟨S1x4096x2048, .f32⟩
  | 77 => ⟨S4096x2048, .f32⟩
  | 78 => ⟨S36864x4096, .f32⟩
  | 79 => ⟨S36864x4096, .f32⟩
  | 80 => ⟨S36864x4096, .f32⟩
  | 81 => ⟨S_, .f32⟩
  | 82 => ⟨S36864x4096, .f32⟩
  | 83 => ⟨S36864x4096, .f32⟩
  | 84 => ⟨S_, .f32⟩
  | 85 => ⟨S36864x4096, .f32⟩
  | 86 => ⟨S36864x4096, .f32⟩
  | 87 => ⟨S36864x4096, .f32⟩
  | 88 => ⟨S36864x4096, .f32⟩
  | 89 => ⟨S36864x4096, .f32⟩
  | 90 => ⟨S36864x2048, .f32⟩
  | 91 => ⟨S36864x2048, .f32⟩
  | 92 => ⟨S36864x2048, .f32⟩
  | 93 => ⟨S36864x2048, .f32⟩
  | 94 => ⟨S36864x1, .f32⟩
  | 95 => ⟨S1x2048x4096, .f32⟩
  | 96 => ⟨S2048x4096, .f32⟩
  | 97 => ⟨S1x2048x4096, .f32⟩
  | 98 => ⟨S2048x4096, .f32⟩
  | 99 => ⟨S1x4096x2048, .f32⟩
  | 100 => ⟨S4096x2048, .f32⟩
  | 101 => ⟨S36864x4096, .f32⟩
  | 102 => ⟨S36864x4096, .f32⟩
  | 103 => ⟨S36864x4096, .f32⟩
  | 104 => ⟨S_, .f32⟩
  | 105 => ⟨S36864x4096, .f32⟩
  | 106 => ⟨S36864x4096, .f32⟩
  | 107 => ⟨S_, .f32⟩
  | 108 => ⟨S36864x4096, .f32⟩
  | 109 => ⟨S36864x4096, .f32⟩
  | 110 => ⟨S36864x4096, .f32⟩
  | 111 => ⟨S36864x4096, .f32⟩
  | 112 => ⟨S36864x4096, .f32⟩
  | 113 => ⟨S36864x2048, .f32⟩
  | 114 => ⟨S36864x2048, .f32⟩
  | 115 => ⟨S36864x2048, .f32⟩
  | 116 => ⟨S36864x2048, .f32⟩
  | 117 => ⟨S36864x1, .f32⟩
  | 118 => ⟨S1x2048x4096, .f32⟩
  | 119 => ⟨S2048x4096, .f32⟩
  | 120 => ⟨S1x2048x4096, .f32⟩
  | 121 => ⟨S2048x4096, .f32⟩
  | 122 => ⟨S1x4096x2048, .f32⟩
  | 123 => ⟨S4096x2048, .f32⟩
  | 124 => ⟨S36864x4096, .f32⟩
  | 125 => ⟨S36864x4096, .f32⟩
  | 126 => ⟨S36864x4096, .f32⟩
  | 127 => ⟨S_, .f32⟩
  | _ => ⟨S36864x2048, .bf16⟩

abbrev hbmTy0_1 (i : Nat) : BufTy := match i % 128 with
  | 0 => ⟨S36864x4096, .f32⟩
  | 1 => ⟨S36864x4096, .f32⟩
  | 2 => ⟨S_, .f32⟩
  | 3 => ⟨S36864x4096, .f32⟩
  | 4 => ⟨S36864x4096, .f32⟩
  | 5 => ⟨S36864x4096, .f32⟩
  | 6 => ⟨S36864x4096, .f32⟩
  | 7 => ⟨S36864x4096, .f32⟩
  | 8 => ⟨S36864x2048, .f32⟩
  | 9 => ⟨S36864x2048, .f32⟩
  | 10 => ⟨S36864x2048, .f32⟩
  | 11 => ⟨S36864x2048, .f32⟩
  | 12 => ⟨S36864x1, .f32⟩
  | 13 => ⟨S1x2048x4096, .f32⟩
  | 14 => ⟨S2048x4096, .f32⟩
  | 15 => ⟨S1x2048x4096, .f32⟩
  | 16 => ⟨S2048x4096, .f32⟩
  | 17 => ⟨S1x4096x2048, .f32⟩
  | 18 => ⟨S4096x2048, .f32⟩
  | 19 => ⟨S36864x4096, .f32⟩
  | 20 => ⟨S36864x4096, .f32⟩
  | 21 => ⟨S36864x4096, .f32⟩
  | 22 => ⟨S_, .f32⟩
  | 23 => ⟨S36864x4096, .f32⟩
  | 24 => ⟨S36864x4096, .f32⟩
  | 25 => ⟨S_, .f32⟩
  | 26 => ⟨S36864x4096, .f32⟩
  | 27 => ⟨S36864x4096, .f32⟩
  | 28 => ⟨S36864x4096, .f32⟩
  | 29 => ⟨S36864x4096, .f32⟩
  | 30 => ⟨S36864x4096, .f32⟩
  | 31 => ⟨S36864x2048, .f32⟩
  | 32 => ⟨S36864x2048, .f32⟩
  | 33 => ⟨S36864x2048, .f32⟩
  | 34 => ⟨S36864x2048, .f32⟩
  | 35 => ⟨S36864x1, .f32⟩
  | 36 => ⟨S1x2048x4096, .f32⟩
  | 37 => ⟨S2048x4096, .f32⟩
  | 38 => ⟨S1x2048x4096, .f32⟩
  | 39 => ⟨S2048x4096, .f32⟩
  | 40 => ⟨S1x4096x2048, .f32⟩
  | 41 => ⟨S4096x2048, .f32⟩
  | 42 => ⟨S36864x4096, .f32⟩
  | 43 => ⟨S36864x4096, .f32⟩
  | 44 => ⟨S36864x4096, .f32⟩
  | 45 => ⟨S_, .f32⟩
  | 46 => ⟨S36864x4096, .f32⟩
  | 47 => ⟨S36864x4096, .f32⟩
  | 48 => ⟨S_, .f32⟩
  | 49 => ⟨S36864x4096, .f32⟩
  | 50 => ⟨S36864x4096, .f32⟩
  | 51 => ⟨S36864x4096, .f32⟩
  | 52 => ⟨S36864x4096, .f32⟩
  | 53 => ⟨S36864x4096, .f32⟩
  | 54 => ⟨S36864x2048, .f32⟩
  | 55 => ⟨S36864x2048, .f32⟩
  | 56 => ⟨S36864x2048, .f32⟩
  | 57 => ⟨S36864x2048, .f32⟩
  | 58 => ⟨S36864x1, .f32⟩
  | 59 => ⟨S1x2048x4096, .f32⟩
  | 60 => ⟨S2048x4096, .f32⟩
  | 61 => ⟨S1x2048x4096, .f32⟩
  | 62 => ⟨S2048x4096, .f32⟩
  | 63 => ⟨S1x4096x2048, .f32⟩
  | 64 => ⟨S4096x2048, .f32⟩
  | 65 => ⟨S36864x4096, .f32⟩
  | 66 => ⟨S36864x4096, .f32⟩
  | 67 => ⟨S36864x4096, .f32⟩
  | 68 => ⟨S_, .f32⟩
  | 69 => ⟨S36864x4096, .f32⟩
  | 70 => ⟨S36864x4096, .f32⟩
  | 71 => ⟨S_, .f32⟩
  | 72 => ⟨S36864x4096, .f32⟩
  | 73 => ⟨S36864x4096, .f32⟩
  | 74 => ⟨S36864x4096, .f32⟩
  | 75 => ⟨S36864x4096, .f32⟩
  | 76 => ⟨S36864x4096, .f32⟩
  | 77 => ⟨S36864x2048, .f32⟩
  | 78 => ⟨S36864x2048, .f32⟩
  | 79 => ⟨S36864x2048, .f32⟩
  | 80 => ⟨S36864x2048, .f32⟩
  | _ => ⟨S36864x2048, .bf16⟩

abbrev hbmTy (i : Nat) : BufTy := match i / 128 with
  | 0 => hbmTy0_0 i
  | 1 => hbmTy0_1 i
  | _ => ⟨S36864x2048, .bf16⟩

abbrev bufTy : (tb : Table) → Fin (tcTables nBuf tb) → BufTy
  | .hbm, ⟨i, _⟩ => hbmTy i
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call7_v0 : Ref sig .tc := ⟨.hbm, 171, rfl⟩
abbrev main_call7_v1 : Ref sig .tc := ⟨.hbm, 172, rfl⟩
abbrev main_call7_cst : Ref sig .tc := ⟨.hbm, 173, rfl⟩
abbrev main_call7_v2 : Ref sig .tc := ⟨.hbm, 174, rfl⟩
abbrev main_call7_v3 : Ref sig .tc := ⟨.hbm, 175, rfl⟩
abbrev main_call7_cst_0 : Ref sig .tc := ⟨.hbm, 176, rfl⟩
abbrev main_call7_v4 : Ref sig .tc := ⟨.hbm, 177, rfl⟩
abbrev main_call7_v5 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_call8_v0 : Ref sig .tc := ⟨.hbm, 194, rfl⟩
abbrev main_call8_v1 : Ref sig .tc := ⟨.hbm, 195, rfl⟩
abbrev main_call8_cst : Ref sig .tc := ⟨.hbm, 196, rfl⟩
abbrev main_call8_v2 : Ref sig .tc := ⟨.hbm, 197, rfl⟩
abbrev main_call8_v3 : Ref sig .tc := ⟨.hbm, 198, rfl⟩
abbrev main_call8_cst_0 : Ref sig .tc := ⟨.hbm, 199, rfl⟩
abbrev main_call8_v4 : Ref sig .tc := ⟨.hbm, 200, rfl⟩
abbrev main_call8_v5 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩

abbrev nD : Nat := 1
abbrev τ : Topo := Topo.v7x

variable {F : FTy → Type} [FloatOps F]
-- ==== Kernel3.lean ====
abbrev S16384x2048 : Shape := ⟨2, ![16384, 2048]⟩
abbrev S8x6x2048 : Shape := ⟨3, ![8, 6, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S1x6x2048 : Shape := ⟨3, ![1, 6, 2048]⟩
abbrev S2048x512 : Shape := ⟨2, ![2048, 512]⟩
abbrev S512x2048 : Shape := ⟨2, ![512, 2048]⟩
abbrev S1x1x2048 : Shape := ⟨3, ![1, 1, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S16384x2048, .f32⟩
  | .local _ .vmem, ⟨0, _⟩ => ⟨S1024x2048, .f32⟩
  | .local _ .vmem, ⟨1, _⟩ => ⟨S1x6x2048, .f32⟩
  | .local _ .vmem, ⟨2, _⟩ => ⟨S1x6x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S8x6x2048 : Shape := ⟨3, ![8, 6, 2048]⟩
abbrev S2048 : Shape := ⟨1, ![2048]⟩
abbrev S2048x5632 : Shape := ⟨2, ![2048, 5632]⟩
abbrev S5632x2048 : Shape := ⟨2, ![5632, 2048]⟩
abbrev S8x2048x2048 : Shape := ⟨3, ![8, 2048, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x5632 : Shape := ⟨3, ![8, 2048, 5632]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S8x2048x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S1x1x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x1x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S_, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x5632, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel4.lean ====
abbrev S16384x2048 : Shape := ⟨2, ![16384, 2048]⟩
abbrev S8x6x2048 : Shape := ⟨3, ![8, 6, 2048]⟩
abbrev S2048 : Shape := ⟨1, ![2048]⟩
abbrev S2048x4608 : Shape := ⟨2, ![2048, 4608]⟩
abbrev S1x2048 : Shape := ⟨2, ![1, 2048]⟩
abbrev S16384x4608 : Shape := ⟨2, ![16384, 4608]⟩
abbrev S1024x2048 : Shape := ⟨2, ![1024, 2048]⟩
abbrev S1x6x2048 : Shape := ⟨3, ![1, 6, 2048]⟩
abbrev S2048x1536 : Shape := ⟨2, ![2048, 1536]⟩
abbrev S1024x1536 : Shape := ⟨2, ![1024, 1536]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S2048, .f32⟩
  | .hbm, ⟨3, _⟩ => ⟨S2048x4608, .f32⟩
  | .hbm, ⟨4, _⟩ => ⟨S1x2048, .f32⟩
  | .hbm, ⟨5, _⟩ => ⟨S2048x4608, .bf16⟩
  | .hbm, ⟨6, _⟩ => ⟨S16384x4608, .bf16⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1536, .bf16⟩
  | .local _ .vmem, ⟨6, _⟩ => ⟨S2048x1536, .bf16⟩
  | .local _ .vmem, ⟨7, _⟩ => ⟨S1024x1536, .bf16⟩
  | .local _ .vmem, ⟨8, _⟩ => ⟨S1024x1536, .bf16⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S8x6x2048 : Shape := ⟨3, ![8, 6, 2048]⟩
abbrev S2048 : Shape := ⟨1, ![2048]⟩
abbrev S2048x4608 : Shape := ⟨2, ![2048, 4608]⟩
abbrev S8x2048x2048 : Shape := ⟨3, ![8, 2048, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x4608 : Shape := ⟨3, ![8, 2048, 4608]⟩
abbrev S16384x4608 : Shape := ⟨2, ![16384, 4608]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x6x2048, .f32⟩
  | .hbm, ⟨2, _⟩ => ⟨S2048, .f32⟩
  | .hbm, ⟨3, _⟩ => ⟨S2048x4608, .f32⟩
  | .hbm, ⟨4, _⟩ => ⟨S8x2048x2048, .f32⟩
  | .hbm, ⟨5, _⟩ => ⟨S8x1x2048, .f32⟩
  | .hbm, ⟨6, _⟩ => ⟨S8x1x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x4608, .f32⟩
  | .hbm, ⟨31, _⟩ => ⟨S16384x4608, .f32⟩
  | .hbm, ⟨32, _⟩ => ⟨S16384x4608, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel5.lean ====
abbrev S16384x1024 : Shape := ⟨2, ![16384, 1024]⟩
abbrev S2048x2048 : Shape := ⟨2, ![2048, 2048]⟩
abbrev S16384x2048 : Shape := ⟨2, ![16384, 2048]⟩
abbrev S8x6x2048 : Shape := ⟨3, ![8, 6, 2048]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x6x2048, .f32⟩
  | .hbm, ⟨5, _⟩ => ⟨S2048x2048, .bf16⟩
  | .hbm, ⟨6, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x6x1024, .f32⟩
  | .local _ .vmem, ⟨11, _⟩ => ⟨S1x6x1024, .f32⟩
  | .local _ .vmem, ⟨12, _⟩ => ⟨S1024x1024, .f32⟩
  | .local _ .vmem, ⟨13, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16384x1024 : Shape := ⟨2, ![16384, 1024]⟩
abbrev S2048x2048 : Shape := ⟨2, ![2048, 2048]⟩
abbrev S16384x2048 : Shape := ⟨2, ![16384, 2048]⟩
abbrev S8x6x2048 : Shape := ⟨3, ![8, 6, 2048]⟩
abbrev S8x2048x2048 : Shape := ⟨3, ![8, 2048, 2048]⟩
abbrev S8x1x2048 : Shape := ⟨3, ![8, 1, 2048]⟩
abbrev S8x2048x1024 : Shape := ⟨3, ![8, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x6x2048, .f32⟩
  | .hbm, ⟨5, _⟩ => ⟨S8x2048x2048, .f32⟩
  | .hbm, ⟨6, _⟩ => ⟨S8x1x2048, .f32⟩
  | .hbm, ⟨7, _⟩ => ⟨S16384x1024, .f32⟩
  | .hbm, ⟨8, _⟩ => ⟨S8x2048x1024, .f32⟩
  | .hbm, ⟨9, _⟩ => ⟨S16384x1024, .f32⟩
  | .hbm, ⟨10, _⟩ => ⟨S8x2048x1024, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S16384x4608 : Shape := ⟨2, ![16384, 4608]⟩
abbrev S3x1024 : Shape := ⟨2, ![3, 1024]⟩
abbrev S1024 : Shape := ⟨1, ![1024]⟩
abbrev S1x1024 : Shape := ⟨2, ![1, 1024]⟩
abbrev S16384x1024 : Shape := ⟨2, ![16384, 1024]⟩
abbrev S2048x128 : Shape := ⟨2, ![2048, 128]⟩
abbrev S3x128 : Shape := ⟨2, ![3, 128]⟩
abbrev S1x128 : Shape := ⟨2, ![1, 128]⟩
abbrev S2048 : Shape := ⟨1, ![2048]⟩
abbrev S2048x1 : Shape := ⟨2, ![2048, 1]⟩

abbrev nBuf : Space → Nat
  | .hbm => 5
  | .vmem => 12
  | .smem => 0
  | _ => 0

abbrev bufTy : (tb : Table) → Fin (tcTables nBuf tb) → BufTy
  | .hbm, ⟨0, _⟩ => ⟨S16384x4608, .bf16⟩
  | .hbm, ⟨1, _⟩ => ⟨S3x1024, .f32⟩
  | .hbm, ⟨2, _⟩ => ⟨S1024, .f32⟩
  | .hbm, ⟨3, _⟩ => ⟨S1x1024, .f32⟩
  | .hbm, ⟨4, _⟩ => ⟨S16384x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S2048x128, .bf16⟩
  | .local _ .vmem, ⟨11, _⟩ => ⟨S2048x128, .bf16⟩
  | _, _ => ⟨S16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x4608 : Shape := ⟨2, ![16384, 4608]⟩
abbrev S3x1024 : Shape := ⟨2, ![3, 1024]⟩
abbrev S1024 : Shape := ⟨1, ![1024]⟩
abbrev S8x2048x4608 : Shape := ⟨3, ![8, 2048, 4608]⟩
abbrev S8x2048x3072 : Shape := ⟨3, ![8, 2048, 3072]⟩
abbrev S8x2048x1024 : Shape := ⟨3, ![8, 2048, 1024]⟩
abbrev S_ : Shape := ⟨0, ![]⟩
abbrev S8x2050x1024 : Shape := ⟨3, ![8, 2050, 1024]⟩
abbrev S1x1024 : Shape := ⟨2, ![1, 1024]⟩
abbrev S1x1x1024 : Shape := ⟨3, ![1, 1, 1024]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x4608, .bf16⟩
  | .hbm, ⟨1, _⟩ => ⟨S3x1024, .f32⟩
  | .hbm, ⟨2, _⟩ => ⟨S1024, .f32⟩
  | .hbm, ⟨3, _⟩ => ⟨S16384x4608, .f32⟩
  | .hbm, ⟨4, _⟩ => ⟨S8x2048x4608, .f32⟩
  | .hbm, ⟨5, _⟩ => ⟨S8x2048x3072, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .i32⟩
  | .hbm, ⟨11, _⟩ => ⟨S_, .f32⟩
  | .hbm, ⟨12, _⟩ => ⟨S8x2050x1024, .f32⟩
  | .hbm, ⟨13, _⟩ => ⟨S8x2048x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x8x128, .f32⟩
  | .hbm, ⟨35, _⟩ => ⟨S_, .f32⟩
  | .hbm, ⟨36, _⟩ => ⟨S128, .f32⟩
  | .hbm, ⟨37, _⟩ => ⟨S8x2048x8x128, .f32⟩
  | .hbm, ⟨38, _⟩ => ⟨S_, .f32⟩
  | .hbm, ⟨39, _⟩ => ⟨S8x2048x8, .f32⟩
  | .hbm, ⟨40, _⟩ => ⟨S8x2048x8x1, .f32⟩
  | .hbm, ⟨41, _⟩ => ⟨S_, .f32⟩
  | .hbm, ⟨42, _⟩ => ⟨S8x2048x8x1, .f32⟩
  | .hbm, ⟨43, _⟩ => ⟨S8x2048x8x1, .f32⟩
  | .hbm, ⟨44, _⟩ => ⟨S_, .f32⟩
  | .hbm, ⟨45, _⟩ => ⟨S8x2048x8x1, .f32⟩
  | .hbm, ⟨46, _⟩ => ⟨S8x2048x8x1, .f32⟩
  | .hbm, ⟨47, _⟩ => ⟨S8x2048x8x1, .f32⟩
  | .hbm, ⟨48, _⟩ => ⟨S8x2048x8x128, .f32⟩
  | .hbm, ⟨49, _⟩ => ⟨S8x2048x8x128, .f32⟩
  | .hbm, ⟨50, _⟩ => ⟨S1x1x1x128, .f32⟩
  | .hbm, ⟨51, _⟩ => ⟨S8x2048x8x128, .f32⟩
  | .hbm, ⟨52, _⟩ => ⟨S8x2048x8x128, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S16384x1024, .f32⟩
  | .hbm, ⟨58, _⟩ => ⟨S16384x1024, .bf16⟩
  | _, _ => ⟨S16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel7.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Soft.lean ====
module

public import Idealize.ShloMosaic.Lib.Pointwise
public import Idealize.ShloMosaic.Lib.IdealHost

/-!
  The scalar mathematics of one attention head, over the extended reals: the row normalization, the rotary rotation
  in its two spellings, the scaled score, and the softmax in its two spellings (divide the weighted sum once, or
  divide every weight). No program is mentioned here.
-/

@[expose] public section
set_option maxRecDepth 16384
noncomputable section
namespace Cert.Attention
open Idealize.ShloMosaic

/-- The constant 128, as the programs print it. -/
abbrev c128 : EReal := Ideal.ofBits .f32 1124073472#32
/-- The normalization's small constant, as the programs print it. -/
abbrev cEps : EReal := Ideal.ofBits .f32 897988541#32
/-- The score's scale, as the programs print it. -/
abbrev cScale : EReal := Ideal.ofBits .f32 1035273459#32
/-- Minus infinity, as the programs print it. -/
abbrev cBot : EReal := Ideal.ofBits .f32 4286578688#32

theorem c128_eq : c128 = ((128 : ℝ) : EReal) := by
  simp [Ideal.ofBits, Ideal.ieee]
  rw [← EReal.coe_mul]; norm_num

theorem cBot_eq : cBot = ⊥ := by
  simp [Ideal.ofBits, Ideal.ieee]

theorem cScale_eq : ∃ r : ℝ, 0 ≤ r ∧ cScale = (r : EReal) := by
  refine ⟨_, ?_, by simp [Ideal.ofBits, Ideal.ieee]; rfl⟩
  positivity

theorem cEps_eq : ∃ r : ℝ, 0 ≤ r ∧ cEps = (r : EReal) := by
  refine ⟨_, ?_, by simp [Ideal.ofBits, Ideal.ieee]; rfl⟩
  positivity

/-- A row divided by the root of its mean square. -/
def nrm {n : ℕ} (x : Fin n → EReal) (d : Fin n) : EReal :=
  x d * Ideal.rsqrt (Ideal.div (∑ e, x e * x e) c128 + cEps)

/-- The rotary rotation as two cyclic shifts by a quarter against two signed sine tables. -/
def rope3 (y c u w : Fin 128 → EReal) (d : Fin 128) : EReal :=
  y d * c d + y ⟨(d.val + 128 - 96) % 128, by omega⟩ * u d + y ⟨(d.val + 128 - 32) % 128, by omega⟩ * w d

/-- The rotary rotation as the half-swap of each 64-wide section against one sine table. -/
def ropeR (y c s : Fin 128 → EReal) (d : Fin 128) : EReal :=
  y d * c d + (if d.val / 32 % 2 < 1 then -y ⟨d.val / 64 * 64 + 32 + d.val % 32, by omega⟩
    else y ⟨d.val / 64 * 64 + d.val % 32, by omega⟩) * s d

/-- The two spellings of the rotation agree. -/
theorem rope3_eq (y c s : Fin 128 → EReal) (d : Fin 128) :
    rope3 y c (fun d => if d.val % 64 < 32 then -s d else 0) (fun d => if d.val % 64 < 32 then 0 else s d) d
      = ropeR y c s d := by
  unfold rope3 ropeR
  dsimp only
  by_cases h : d.val % 64 < 32
  · rw [if_pos h, if_pos h, if_pos (by omega), mul_zero, add_zero, mul_neg, neg_mul]
    congr 4
    apply Fin.ext
    show (d.val + 128 - 96) % 128 = d.val / 64 * 64 + 32 + d.val % 32
    omega
  · rw [if_neg h, if_neg h, if_neg (by omega), mul_zero, add_zero]
    congr 3
    apply Fin.ext
    show (d.val + 128 - 32) % 128 = d.val / 64 * 64 + d.val % 32
    omega

/-- The rotary angle of position `p` and lane `d`: the lane's row or column of the position, times the lane's frequency. -/
def ang (p : Fin 2048) (d : Fin 128) : EReal :=
  if d.val < 32 then
    FloatOps.sitofp (F := Ideal) FTy.f32 (BitVec.ofNat 32 (p.val / 64)) * Ideal.pow (Ideal.ofBits FTy.f32 1176256512#32)
      (Ideal.div (-FloatOps.sitofp (F := Ideal) FTy.f32 (BitVec.ofNat 32 d.val)) (Ideal.ofBits FTy.f32 1107296256#32))
  else if d.val - 32 < 32 then
    FloatOps.sitofp (F := Ideal) FTy.f32 (BitVec.ofNat 32 (p.val / 64)) * Ideal.pow (Ideal.ofBits FTy.f32 1176256512#32)
      (Ideal.div (-FloatOps.sitofp (F := Ideal) FTy.f32 (BitVec.ofNat 32 (d.val - 32))) (Ideal.ofBits FTy.f32 1107296256#32))
  else if d.val - 32 - 32 < 32 then
    FloatOps.sitofp (F := Ideal) FTy.f32 (BitVec.ofNat 32 (p.val % 64)) * Ideal.pow (Ideal.ofBits FTy.f32 1176256512#32)
      (Ideal.div (-FloatOps.sitofp (F := Ideal) FTy.f32 (BitVec.ofNat 32 (d.val - 32 - 32))) (Ideal.ofBits FTy.f32 1107296256#32))
  else
    FloatOps.sitofp (F := Ideal) FTy.f32 (BitVec.ofNat 32 (p.val % 64)) * Ideal.pow (Ideal.ofBits FTy.f32 1176256512#32)
      (Ideal.div (-FloatOps.sitofp (F := Ideal) FTy.f32 (BitVec.ofNat 32 (d.val - 32 - 32 - 32))) (Ideal.ofBits FTy.f32 1107296256#32))

/-- The cosine table. -/
def tCos (p : Fin 2048) (d : Fin 128) : EReal := Ideal.cos (ang p d)
/-- The sine table. -/
def tSin (p : Fin 2048) (d : Fin 128) : EReal := Ideal.sin (ang p d)

/-- A row normalized, times its gain. -/
def nrmG (x g : Fin 128 → EReal) (d : Fin 128) : EReal := nrm x d * g d

/-- A query's or key's row at position `p`, normalized, times its gain, rotated. -/
def rot (p : Fin 2048) (x g : Fin 128 → EReal) : Fin 128 → EReal := ropeR (nrmG x g) (tCos p) (tSin p)

/-- The scaled scores of one query row against the keys' rows. -/
def score (p : Fin 2048) (x g : Fin 128 → EReal) (k : Fin 2048 → Fin 128 → EReal) (g' : Fin 128 → EReal) (j : Fin 2048) : EReal :=
  (∑ e, rot j (k j) g' e * rot p x g e) * cScale

/-- A nonnegative real factor comes out of a sum. -/
theorem sum_mul_coe {ι : Type} (S : Finset ι) (f : ι → EReal) (r : ℝ) (hr : 0 ≤ r) :
    ∑ i ∈ S, f i * (r : EReal) = (∑ i ∈ S, f i) * (r : EReal) := by
  classical
  induction S using Finset.induction_on with
  | empty => simp
  | insert a S ha ih =>
    rw [Finset.sum_insert ha, Finset.sum_insert ha, ih,
      EReal.right_distrib_of_nonneg_of_ne_top (EReal.coe_nonneg.mpr hr) (EReal.coe_ne_top r)]

/-- Scaling the queries scales the score. -/
theorem score_eq {n : ℕ} (q k : Fin n → EReal) :
    ∑ x, q x * cScale * k x = (∑ x, k x * q x) * cScale := by
  obtain ⟨r, hr, h⟩ := cScale_eq
  rw [h, ← sum_mul_coe _ _ r hr]
  exact Finset.sum_congr rfl fun x _ => by rw [mul_right_comm, mul_comm (q x)]

/-- A number that is zero or infinite. -/
def Far (x : EReal) : Prop := x = 0 ∨ x = ⊤ ∨ x = ⊥

theorem Far.add {x y : EReal} (hx : Far x) (hy : Far y) : Far (x + y) := by
  rcases hx with rfl | rfl | rfl <;> rcases hy with rfl | rfl | rfl <;> simp [Far]

theorem Far.mul_bot (x : EReal) : Far (x * ⊥) := by
  rcases lt_trichotomy x 0 with h | rfl | h
  · exact .inr (.inl (EReal.mul_bot_of_neg h))
  · exact .inl (zero_mul _)
  · exact .inr (.inr (EReal.mul_bot_of_pos h))

theorem Far.sum {ι : Type} (S : Finset ι) (f : ι → EReal) (h : ∀ i, Far (f i)) : Far (∑ i ∈ S, f i) := by
  classical
  induction S using Finset.induction_on with
  | empty => exact .inl rfl
  | insert a S ha ih => rw [Finset.sum_insert ha]; exact (h a).add ih

theorem mul_self_nonneg' (x : EReal) : 0 ≤ x * x := by
  rcases le_total 0 x with h | h
  · exact mul_nonneg h h
  · exact EReal.mul_nonneg_iff.mpr (.inr ⟨h, h⟩)

theorem div_c128_top : Ideal.div ⊤ c128 = ⊤ := by
  rw [c128_eq, Ideal.div_coe (by norm_num)]
  exact EReal.top_mul_coe_of_pos (by norm_num)

theorem top_add_cEps : (⊤ : EReal) + cEps = ⊤ := by
  obtain ⟨r, _, h⟩ := cEps_eq
  rw [h]; exact EReal.top_add_coe r

/-- A row of zeros and infinities normalizes to zero. -/
theorem nrm_far {n : ℕ} (x : Fin n → EReal) (h : ∀ d, Far (x d)) (d : Fin n) : nrm x d = 0 := by
  unfold nrm
  by_cases h0 : x d = 0
  · rw [h0, zero_mul]
  · have hsq : x d * x d = ⊤ := by
      rcases h d with h | h | h
      · exact absurd h h0
      · rw [h]; rfl
      · rw [h]; rfl
    have hs : ∑ e, x e * x e = ⊤ := by
      apply top_le_iff.mp
      rw [← hsq]
      exact Finset.single_le_sum (f := fun e => x e * x e) (fun e _ => mul_self_nonneg' (x e)) (Finset.mem_univ d)
    rw [hs, div_c128_top, top_add_cEps]
    show x d * 0 = 0
    exact mul_zero _

/-- The greatest of a row, as the programs fold it. -/
def rowMax {n : ℕ} (s : Fin n → EReal) : EReal := Finset.fold max cBot s Finset.univ

theorem le_rowMax {n : ℕ} (s : Fin n → EReal) (j : Fin n) : s j ≤ rowMax s :=
  Finset.le_fold_max _ |>.mpr (.inr ⟨j, Finset.mem_univ j, le_refl _⟩)

theorem rowMax_mem {n : ℕ} (s : Fin n → EReal) (h : rowMax s ≠ ⊥) : ∃ j, s j = rowMax s := by
  have h2 : rowMax s ≤ rowMax s := le_refl _
  rcases (Finset.le_fold_max (s := Finset.univ) (f := s) (b := cBot) (rowMax s)).mp h2 with h3 | ⟨j, _, h3⟩
  · rw [cBot_eq] at h3
    exact absurd (le_bot_iff.mp h3) h
  · exact ⟨j, le_antisymm (le_rowMax s j) h3⟩

theorem max_cBot_rowMax {n : ℕ} (s : Fin n → EReal) : max cBot (rowMax s) = rowMax s := by
  rw [cBot_eq]; exact max_eq_right bot_le

/-- The softmax weights before division. -/
def wt {n : ℕ} (s : Fin n → EReal) (j : Fin n) : EReal := Ideal.exp (s j - rowMax s)

/-- Where the greatest score is infinite, every weight is zero. -/
theorem wt_eq_zero {n : ℕ} (s : Fin n → EReal) (h : rowMax s = ⊥ ∨ rowMax s = ⊤) (j : Fin n) : wt s j = 0 := by
  have hb : s j - rowMax s = ⊥ := by
    rcases h with h | h
    · have : s j = ⊥ := le_bot_iff.mp (h ▸ le_rowMax s j)
      rw [this, h]; rfl
    · rw [h]; exact EReal.sub_top _
  unfold wt
  rw [hb]; rfl

/-- Where the greatest score is real, every weight is a nonnegative real. -/
theorem wt_coe {n : ℕ} (s : Fin n → EReal) (hb : rowMax s ≠ ⊥) (ht : rowMax s ≠ ⊤) (j : Fin n) :
    ∃ r : ℝ, 0 ≤ r ∧ wt s j = (r : EReal) := by
  have hle := le_rowMax s j
  unfold wt
  generalize rowMax s = M at *
  generalize s j = x at *
  induction M using EReal.rec with
  | bot => exact absurd rfl hb
  | top => exact absurd rfl ht
  | coe M =>
    induction x using EReal.rec with
    | bot => exact ⟨0, le_refl _, rfl⟩
    | top => exact absurd (top_le_iff.mp hle) ht
    | coe x => exact ⟨Real.exp (x - M), (Real.exp_pos _).le, rfl⟩

theorem wt_one {n : ℕ} (s : Fin n → EReal) (hb : rowMax s ≠ ⊥) (ht : rowMax s ≠ ⊤) :
    ∃ j, wt s j = 1 := by
  obtain ⟨j, hj⟩ := rowMax_mem s hb
  refine ⟨j, ?_⟩
  unfold wt
  rw [hj]
  generalize rowMax s = M at *
  induction M using EReal.rec with
  | bot => exact absurd rfl hb
  | top => exact absurd rfl ht
  | coe M =>
    show ((Real.exp (M - M) : ℝ) : EReal) = 1
    rw [sub_self, Real.exp_zero]; rfl

theorem sum_coe_exists {ι : Type} (S : Finset ι) (f : ι → EReal) (h : ∀ i, ∃ r : ℝ, 0 ≤ r ∧ f i = (r : EReal)) :
    ∃ r : ℝ, 0 ≤ r ∧ ∑ i ∈ S, f i = (r : EReal) := by
  classical
  induction S using Finset.induction_on with
  | empty => exact ⟨0, le_refl _, rfl⟩
  | insert a S ha ih =>
    obtain ⟨r, hr, e⟩ := ih
    obtain ⟨q, hq, e'⟩ := h a
    exact ⟨q + r, add_nonneg hq hr, by rw [Finset.sum_insert ha, e, e']; rfl⟩

/-- One head's output row, the weighted sum divided once. -/
def headK {n : ℕ} (s : Fin n → EReal) (v : Fin n → Fin 128 → EReal) (d : Fin 128) : EReal :=
  Ideal.div (∑ j, wt s j * v j d) (∑ j, wt s j)

/-- One head's output row, every weight divided. -/
def headR {n : ℕ} (s : Fin n → EReal) (v : Fin n → Fin 128 → EReal) (d : Fin 128) : EReal :=
  ∑ j, v j d * Ideal.div (wt s j) (∑ j, wt s j)

/-- The two spellings of the softmax give the same normalized row, whatever the scores are: where the greatest score
    is real they are equal, and where it is infinite both rows hold only zeros and infinities, which normalize to
    zero. -/
theorem nrm_head {n : ℕ} (s : Fin n → EReal) (v : Fin n → Fin 128 → EReal) (d : Fin 128) :
    nrm (headK s v) d = nrm (headR s v) d := by
  by_cases h : rowMax s = ⊥ ∨ rowMax s = ⊤
  · have hw := wt_eq_zero s h
    have hd : Ideal.div 0 0 = ⊥ := by unfold Ideal.div; rw [if_pos rfl, if_neg (lt_irrefl _)]
    rw [nrm_far, nrm_far]
    · intro d
      unfold headR
      refine Far.sum _ _ fun j => ?_
      simp only [hw, Finset.sum_const_zero, hd]
      exact Far.mul_bot _
    · intro d
      unfold headK
      simp only [hw, zero_mul, Finset.sum_const_zero, hd]
      exact .inr (.inr rfl)
  · have hb : rowMax s ≠ ⊥ := fun e => h (.inl e)
    have ht : rowMax s ≠ ⊤ := fun e => h (.inr e)
    obtain ⟨D, hD, e⟩ := sum_coe_exists Finset.univ (wt s) (wt_coe s hb ht)
    obtain ⟨j, hj⟩ := wt_one s hb ht
    have h1 : (1 : EReal) ≤ (D : EReal) := by
      rw [← e, ← hj]
      refine Finset.single_le_sum (f := wt s) (fun i _ => ?_) (Finset.mem_univ j)
      obtain ⟨r, hr, e'⟩ := wt_coe s hb ht i
      rw [e']; exact EReal.coe_nonneg.mpr hr
    have hD1 : (1 : ℝ) ≤ D := by exact_mod_cast h1
    have hD0 : D ≠ 0 := by linarith
    have hf : headK s v = headR s v := by
      funext d
      unfold headK headR
      rw [e, Ideal.div_coe hD0, ← sum_mul_coe _ _ _ (by positivity)]
      refine Finset.sum_congr rfl fun j _ => ?_
      rw [Ideal.div_coe hD0, mul_comm (wt s j), mul_assoc]
    rw [hf]

/-- Attention as the reference states it, at row `r` and column `c` of its result: the row's query head `c / 128` against
    the keys and values of the row's batch in head group `c / 512`, each head normalised and scaled. -/
def attn (A : Fin 16384 → Fin 4608 → EReal) (qg kg : Fin 128 → EReal) (og : Fin 1024 → EReal) (r : Fin 16384) (c : Fin 1024) : EReal :=
  nrm (headR (score ⟨r.val % 2048, Nat.mod_lt _ (by norm_num)⟩ (fun e => A r ⟨c.val / 128 * 128 + e.val, by omega⟩) qg
      (fun j e => A ⟨r.val / 2048 * 2048 + j.val, by omega⟩ ⟨1024 + c.val / 512 * 128 + e.val, by omega⟩) kg)
    (fun j e => A ⟨r.val / 2048 * 2048 + j.val, by omega⟩ ⟨1280 + c.val / 512 * 128 + e.val, by omega⟩))
    ⟨c.val % 128, Nat.mod_lt _ (by norm_num)⟩ * og c

end Cert.Attention
-- ==== Proof.Host.lean ====
module

public import proofs.«01_k».proof.Proof.Gen.KernelIdeal.Value
public import proofs.«01_k».proof.Proof.Soft
public import Idealize.ShloMosaic.Lib.StableHlo.ReadAt
public import Idealize.ShloMosaic.Lib.Tactic.WordOmega

@[expose] public section
set_option maxRecDepth 16384
noncomputable section
namespace Cert.KernelIdeal.Att
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

open Cert.Attention

/-- The printed floor division of a position by 64 is the division of naturals. -/
theorem div64 : ∀ p : Fin 2048, (Scalar.select (IntOp.andi (IntOp.cmpi CmpIPredicate.ne (if BitVec.ofNat 32 p.val = 0 then (0 : BitVec 32) else if (BitVec.ofNat 32 p.val).msb = true then -1 else 1)
      (if 64#32 = 0 then (0 : BitVec 32) else if (64#32).msb = true then -1 else 1))
    (IntOp.cmpi CmpIPredicate.ne (IntOp.remsi ArithUnit.host (BitVec.ofNat 32 p.val) 64#32) 0#32))
    (IntOp.subi (IntOp.divsi ArithUnit.host (BitVec.ofNat 32 p.val) 64#32) 1#32)
    (IntOp.divsi ArithUnit.host (BitVec.ofNat 32 p.val) 64#32)) = BitVec.ofNat 32 (p.val / 64) := by decide +kernel

/-- The printed remainder of an index by 64 is the remainder of naturals. -/
theorem rem64 : ∀ p : Fin 2048, (Scalar.select (IntOp.andi (IntOp.cmpi CmpIPredicate.ne
      (IntOp.cmpi CmpIPredicate.slt (IntOp.remsi ArithUnit.host (BitVec.ofNat 32 p.val) (Scalar.select (IntOp.cmpi CmpIPredicate.eq 64#32 0#32) (1#32) 64#32)) 0#32)
      (IntOp.cmpi CmpIPredicate.slt (Scalar.select (IntOp.cmpi CmpIPredicate.eq 64#32 0#32) (1#32) 64#32) 0#32))
    (IntOp.cmpi CmpIPredicate.ne (IntOp.remsi ArithUnit.host (BitVec.ofNat 32 p.val) (Scalar.select (IntOp.cmpi CmpIPredicate.eq 64#32 0#32) (1#32) 64#32)) 0#32))
    (IntOp.addi (IntOp.remsi ArithUnit.host (BitVec.ofNat 32 p.val) (Scalar.select (IntOp.cmpi CmpIPredicate.eq 64#32 0#32) (1#32) 64#32)) (Scalar.select (IntOp.cmpi CmpIPredicate.eq 64#32 0#32) (1#32) 64#32))
    (IntOp.remsi ArithUnit.host (BitVec.ofNat 32 p.val) (Scalar.select (IntOp.cmpi CmpIPredicate.eq 64#32 0#32) (1#32) 64#32))) = BitVec.ofNat 32 (p.val % 64) := by decide +kernel

theorem V21 (c : Dev nD) (p : Fin 2048) (d : Fin 128) : @Eq EReal (V m c main_v21 (ix2 p d)) (ang p d) := by
  unfold V
  dsimp only [List.flatten, List.append]
  after_reads_simp
  dsimp only [Matrix.cons_val]
  after_reads_simp
  simp -implicitDefEqProofs only [StableHlo.TRef.toBuf, StableHlo.TRef.ofBuf, cast_cast, cast_eq]
  clean_types
  pointwise
  rw [show (id (constantI S_ 32 64#32) ix0 : BitVec 32) = 64#32 from rfl]
  erw [div64 p, rem64 p]
  rfl
theorem V27 (c : Dev nD) (d : Fin 128) : @Eq (BitVec 1) (V m c main_v27 (ix1 d)) (if d.val % 64 < 32 then 1#1 else 0#1) := by
  unfold V
  dsimp only [List.flatten, List.append]
  after_reads_at
  rw [show (id (constantI S_ 32 64#32) ix0 : BitVec 32) = 64#32 from rfl]
  rw [rem64 ⟨d.val, by omega⟩]
  revert d
  decide +kernel
theorem V22_eq (c : Dev nD) : V m c main_v22 = (Host.cos (V m c main_v21 : FVec Ideal S2048x128 .f32) : FVec Ideal S2048x128 .f32) := by
  unfold V
  dsimp only [List.flatten, List.append]
  after_reads_simp
theorem V29_eq (c : Dev nD) : V m c main_v29 = (select (broadcastInDim S2048x128 ![1] bcast_S128_S2048x128_1 (V m c main_v27 : IVec S128 1)) (Host.negf (Host.sin (V m c main_v21 : FVec Ideal S2048x128 .f32))) (broadcastInDim S2048x128 ![] bcast_S_S2048x128 (constant S_ .f32 0x00000000#32)) : FVec Ideal S2048x128 .f32) := by
  unfold V
  dsimp only [List.flatten, List.append]
  after_reads_simp
  rfl
theorem V30_eq (c : Dev nD) : V m c main_v30 = (select (broadcastInDim S2048x128 ![1] bcast_S128_S2048x128_1 (V m c main_v27 : IVec S128 1)) (broadcastInDim S2048x128 ![] bcast_S_S2048x128 (constant S_ .f32 0x00000000#32)) (Host.sin (V m c main_v21 : FVec Ideal S2048x128 .f32)) : FVec Ideal S2048x128 .f32) := by
  unfold V
  dsimp only [List.flatten, List.append]
  after_reads_simp
  rfl
theorem V31_apply (c : Dev nD) (d : Fin 128) : @Eq EReal (V m c main_v31 (ix2 0 d)) (m ((c : Thread nD τ).loc main_arg1) (ix1 d)) := by
  unfold V
  dsimp only [List.flatten, List.append]
  after_reads_at
theorem V32_apply (c : Dev nD) (d : Fin 128) : @Eq EReal (V m c main_v32 (ix2 0 d)) (m ((c : Thread nD τ).loc main_arg2) (ix1 d)) := by
  unfold V
  dsimp only [List.flatten, List.append]
  after_reads_at
theorem V33_apply (c : Dev nD) (d : Fin 1024) : @Eq EReal (V m c main_v33 (ix2 0 d)) (m ((c : Thread nD τ).loc main_arg3) (ix1 d)) := by
  unfold V
  dsimp only [List.flatten, List.append]
  after_reads_at
/-- The staged cosine table is the cosine of the angle. -/
theorem V22_apply (c : Dev nD) (p : Fin 2048) (d : Fin 128) : @Eq EReal (V m c main_v22 (ix2 p d)) (tCos p d) := by
  have h2 := V21 m c p d
  rw [V22_eq]
  generalize V m c main_v21 = b at *
  pointwise
  rw [h2]
  rfl
/-- The first signed sine table: minus the sine on the first half of a section, zero on the second. -/
theorem V29_apply (c : Dev nD) (p : Fin 2048) (d : Fin 128) : @Eq EReal (V m c main_v29 (ix2 p d)) (if d.val % 64 < 32 then -tSin p d else 0) := by
  have h1 := V27 m c d
  have h2 := V21 m c p d
  rw [V29_eq]
  generalize V m c main_v27 = a at *
  generalize V m c main_v21 = b at *
  pointwise
  rw [h1, h2]
  by_cases h : d.val % 64 < 32
  · rw [if_pos h, if_pos h]; rfl
  · rw [if_neg h, if_neg h]; rfl
/-- The second: zero on the first half, the sine on the second. -/
theorem V30_apply (c : Dev nD) (p : Fin 2048) (d : Fin 128) : @Eq EReal (V m c main_v30 (ix2 p d)) (if d.val % 64 < 32 then 0 else tSin p d) := by
  have h1 := V27 m c d
  have h2 := V21 m c p d
  rw [V30_eq]
  generalize V m c main_v27 = a at *
  generalize V m c main_v21 = b at *
  pointwise
  rw [h1, h2]
  by_cases h : d.val % 64 < 32
  · rw [if_pos h, if_pos h]; rfl
  · rw [if_neg h, if_neg h]; rfl
end Cert.KernelIdeal.Att
-- ==== Proof.Body.lean ====
module

public import proofs.«01_k».proof.Proof.Gen.KernelIdeal.Value
public import proofs.«01_k».proof.Proof.Soft

@[expose] public section
set_option maxRecDepth 16384
noncomputable section
namespace Cert.KernelIdeal.Att
open Cert.KernelIdeal Cert.KernelIdeal.Gen Idealize.ShloMosaic Idealize.ShloMosaic.TcCoe Idealize.SL.Sem

open Cert.Attention

/-- The key payload at an index: the key's row, normalized, times its gain, rotated against the three tables. -/
theorem pay2_apply (k : Vec Ideal S2048x128 .bf16) (g : Vec Ideal S1x128 .f32) (x3 x4 x5 : Vec Ideal S2048x128 .f32) (r : Fin 2048) (d : Fin 128) :
    k0_pay2 k g x3 x4 x5 (ix2 d r) = rope3 (nrmG (fun e => k (ix2 r e)) (fun e => g (ix2 0 e)))
      (fun e => x3 (ix2 r e)) (fun e => x4 (ix2 r e)) (fun e => x5 (ix2 r e)) d := by
  pointwise [k0_pay2]
  rfl

/-- The query payload at an index: the same of the query's row, times the scale. -/
theorem pay6_apply (x3 x4 x5 : Vec Ideal S512x128 .f32) (q : Vec Ideal S512x128 .bf16) (g : Vec Ideal S1x128 .f32) (r : Fin 512) (d : Fin 128) :
    k0_pay6 x3 x4 x5 q g (ix2 r d) = rope3 (nrmG (fun e => q (ix2 r e)) (fun e => g (ix2 0 e)))
      (fun e => x3 (ix2 r e)) (fun e => x4 (ix2 r e)) (fun e => x5 (ix2 r e)) d * cScale := by
  pointwise [k0_pay6, k0_pay3, k0_pay4, k0_pay5]
  rfl

/-- The head's payload at an index: the softmax of the scores, weighted sum of the values, normalized, times the gain. -/
theorem pay7_apply (q : Vec Ideal S512x128 .bf16) (k : Vec Ideal S128x2048 .bf16) (v : Vec Ideal S2048x128 .bf16) (g : Vec Ideal S1x128 .f32) (r : Fin 512) (d : Fin 128) :
    k0_pay7 q k v g (ix2 r d) = nrm (headK (fun j => ∑ e, q (ix2 r e) * k (ix2 e j)) (fun j e => v (ix2 j e))) d * g (ix2 0 d) := by
  pointwise [k0_pay7]
  rfl

/-- One head of a block: its payload over the staged tables, query columns, gains, keys and values. -/
def head (x3 x4 x5 : Vec Ideal S512x128 .f32) (q : Vec Ideal S512x128 .bf16) (g : Vec Ideal S1x128 .f32) (k : Vec Ideal S128x2048 .bf16)
    (v : Vec Ideal S2048x128 .bf16) (og : Vec Ideal S1x128 .f32) : Vec Ideal S512x128 .bf16 :=
  k0_pay7 (k0_pay6 x3 x4 x5 q g) k v og

theorem head1_eq (x3 x4 x5 : Vec Ideal S512x128 .f32) (q : Vec Ideal S512x128 .bf16) (g : Vec Ideal S1x128 .f32) (k : Vec Ideal S128x2048 .bf16)
    (v : Vec Ideal S2048x128 .bf16) (og : Vec Ideal S1x128 .f32) :
    k0_pay13 (k0_pay12 (k0_pay3 x3) (k0_pay4 x4) (k0_pay5 x5) (k0_pay8 q) (k0_pay9 g) (k0_pay10 q) k0_pay11 k v) og = head x3 x4 x5 q g k v og := rfl

theorem head2_eq (x3 x4 x5 : Vec Ideal S512x128 .f32) (q : Vec Ideal S512x128 .bf16) (g : Vec Ideal S1x128 .f32) (k : Vec Ideal S128x2048 .bf16)
    (v : Vec Ideal S2048x128 .bf16) (og : Vec Ideal S1x128 .f32) :
    k0_pay17 (k0_pay15 (k0_pay3 x3) (k0_pay4 x4) (k0_pay5 x5) q g k) (k0_pay16 (k0_pay3 x3) (k0_pay4 x4) (k0_pay5 x5) q g k) v og = head x3 x4 x5 q g k v og := rfl

theorem head3_eq (x3 x4 x5 : Vec Ideal S512x128 .f32) (q : Vec Ideal S512x128 .bf16) (g : Vec Ideal S1x128 .f32) (k : Vec Ideal S128x2048 .bf16)
    (v : Vec Ideal S2048x128 .bf16) (og : Vec Ideal S1x128 .f32) :
    k0_pay1 (k0_pay5 x5) (k0_pay19 (k0_pay3 x3) (k0_pay4 x4) q g) (k0_pay20 q g) k v og = head x3 x4 x5 q g k v og := rfl

end Cert.KernelIdeal.Att
-- ==== Proof.Block.lean ====
module

public import proofs.«01_k».proof.Proof.Gen.KernelIdeal.Value
public import proofs.«01_k».proof.Proof.Body
public import Idealize.ShloMosaic.Lib.Pipeline.ValueKit
public import Idealize.ShloMosaic.Lib.Pipeline.ReadBack

@[expose] public section
set_option maxRecDepth 16384
noncomputable section
namespace Cert.KernelIdeal.Att
open Cert.KernelIdeal Cert.KernelIdeal.Gen Idealize.ShloMosaic Idealize.ShloMosaic.TcCoe Idealize.SL.Sem
open Cert.Attention
open Idealize.ShloMosaic.Pipeline (Dat)

/-- One entry of one head's output row: the query row rotated and scaled, against the rotated keys, the values, and the output gain. -/
def cell (q g x3 x4 x5 : Fin 128 → EReal) (k v : Fin 2048 → Fin 128 → EReal) (og : EReal) (d : Fin 128) : EReal :=
  nrm (headK (fun j => ∑ e, rope3 (nrmG q g) x3 x4 x5 e * cScale * k j e) v) d * og

/-- A head's payload at an index is that entry of the rows it was given. -/
theorem head_apply (x3 x4 x5 : Vec Ideal S512x128 .f32) (q : Vec Ideal S512x128 .bf16) (g : Vec Ideal S1x128 .f32) (k : Vec Ideal S128x2048 .bf16)
    (v : Vec Ideal S2048x128 .bf16) (og : Vec Ideal S1x128 .f32) (r : Fin 512) (d : Fin 128) :
    @Eq EReal (head x3 x4 x5 q g k v og (ix2 r d)) (cell (fun e => q (ix2 r e)) (fun e => g (ix2 0 e)) (fun e => x3 (ix2 r e)) (fun e => x4 (ix2 r e))
      (fun e => x5 (ix2 r e)) (fun j e => k (ix2 e j)) (fun j e => v (ix2 j e)) (og (ix2 0 d)) d) := by
  unfold head
  rw [pay7_apply]
  simp only [pay6_apply]
  rfl

/-- Equal rows and parameters give equal entries. -/
theorem cell_congr {q q' g g' x3 x3' x4 x4' x5 x5' : Fin 128 → EReal} {k k' v v' : Fin 2048 → Fin 128 → EReal} {og og' : EReal} {d d' : Fin 128}
    (h1 : q = q') (h2 : g = g') (h3 : x3 = x3') (h4 : x4 = x4') (h5 : x5 = x5') (h6 : k = k') (h7 : v = v') (h8 : og = og') (h9 : d = d') :
    cell q g x3 x4 x5 k v og d = cell q' g' x3' x4' x5' k' v' og' d' := by
  subst h1 h2 h3 h4 h5 h6 h7 h8 h9; rfl

/-- The whole block a grid point writes, entry by entry: `o` is the first row of the block within the rotary tables. -/
def blockOut (o : Nat) (ho : o + 512 ≤ 2048) (Q : Vec Ideal S512x512 .bf16) (g : Vec Ideal S1x128 .f32) (X3 X4 X5 : Vec Ideal S2048x128 .f32)
    (k : Vec Ideal S128x2048 .bf16) (v : Vec Ideal S2048x128 .bf16) (O : Vec Ideal S1x512 .f32) (r : Fin 512) (c : Fin 512) : EReal :=
  cell (fun e => Q (ix2 r ⟨c.val / 128 * 128 + e.val, by omega⟩)) (fun e => g (ix2 0 e)) (fun e => X3 (ix2 ⟨o + r.val, by omega⟩ e))
    (fun e => X4 (ix2 ⟨o + r.val, by omega⟩ e)) (fun e => X5 (ix2 ⟨o + r.val, by omega⟩ e)) (fun j e => k (ix2 e j)) (fun j e => v (ix2 j e))
    (O (ix2 0 c)) ⟨c.val % 128, Nat.mod_lt _ (by norm_num)⟩

/-- A two-coordinate index is the pair of its coordinates. -/
theorem idx2_of {a b : Nat} {x : (⟨2, ![a, b]⟩ : Shape).Idx} {p : Fin a} {q : Fin b} (h0 : (x 0).val = p.val) (h1 : (x 1).val = q.val) : x = ix2 p q := by
  funext k
  match k with
  | 0 => exact Fin.ext h0
  | 1 => exact Fin.ext h1

/-- Each head's payload, loaded from column `cN` on, is the block's entries from that column on. -/
theorem head_piece (o : Nat) (ho : o + 512 ≤ 2048) (cN : Nat) (hc : cN % 128 = 0) (hc' : cN + 128 ≤ 512) (off : Fin 2 → Nat) (hoff : off = ![o, 0])
    (Q : Vec Ideal S512x512 .bf16) (g : Vec Ideal S1x128 .f32) (X3 X4 X5 : Vec Ideal S2048x128 .f32)
    (k : Vec Ideal S128x2048 .bf16) (v : Vec Ideal S2048x128 .bf16) (O : Vec Ideal S1x512 .f32)
    (i3 : ∀ a, off a + S512x128.size a ≤ S2048x128.size a) (iq : ∀ a, (![0, cN] : Fin 2 → Nat) a + S512x128.size a ≤ S512x512.size a)
    (io : ∀ a, (![0, cN] : Fin 2 → Nat) a + S1x128.size a ≤ S1x512.size a) (x : S512x128.Idx) :
    @Eq EReal (head (View.ld X3 (Rect.unit (s := S2048x128) off S512x128.size i3)) (View.ld X4 (Rect.unit (s := S2048x128) off S512x128.size i3))
      (View.ld X5 (Rect.unit (s := S2048x128) off S512x128.size i3))
      (View.ld Q (Rect.unit (s := S512x512) ![0, cN] S512x128.size iq)) g k v (View.ld O (Rect.unit (s := S1x512) ![0, cN] S1x128.size io)) x)
    (blockOut o ho Q g X3 X4 X5 k v O ((Rect.unit (s := S512x512) ![0, cN] S512x128.size iq).emb x 0) ((Rect.unit (s := S512x512) ![0, cN] S512x128.size iq).emb x 1)) := by
  subst hoff
  obtain ⟨r, d, rfl⟩ : ∃ (r : Fin 512) (d : Fin 128), x = ix2 r d := ⟨x 0, x 1, by funext a; match a with | 0 => rfl | 1 => rfl⟩
  have e0 : (((Rect.unit (s := S512x512) ![0, cN] S512x128.size iq).emb (ix2 r d) 0 : Fin 512)).val = r.val := by
    show 0 + 1 * r.val = r.val; omega
  have e1 : (((Rect.unit (s := S512x512) ![0, cN] S512x128.size iq).emb (ix2 r d) 1 : Fin 512)).val = cN + d.val := by
    show cN + 1 * d.val = cN + d.val; omega
  rw [head_apply]
  unfold blockOut
  refine cell_congr ?_ rfl ?_ ?_ ?_ rfl rfl ?_ ?_
  · funext e
    refine congrArg Q (idx2_of ?_ ?_)
    · show 0 + 1 * r.val = _; omega
    · show cN + 1 * e.val = (cN + 1 * d.val) / 128 * 128 + e.val; omega
  · funext e
    refine congrArg X3 (idx2_of ?_ ?_)
    · show o + 1 * r.val = o + (0 + 1 * r.val); omega
    · show 0 + 1 * e.val = _; omega
  · funext e
    refine congrArg X4 (idx2_of ?_ ?_)
    · show o + 1 * r.val = o + (0 + 1 * r.val); omega
    · show 0 + 1 * e.val = _; omega
  · funext e
    refine congrArg X5 (idx2_of ?_ ?_)
    · show o + 1 * r.val = o + (0 + 1 * r.val); omega
    · show 0 + 1 * e.val = _; omega
  · refine congrArg O (idx2_of ?_ ?_)
    · rfl
    · show cN + 1 * d.val = _; omega
  · apply Fin.ext; show d.val = (cN + 1 * d.val) % 128; omega

variable (m : (ℓ : Loc nD τ sig) → Buf (Elt Ideal) ℓ)

/-- Where point `t` starts reading the rotary tables for its queries: row `512 * (t % 4)`. -/
theorem off1_eq : ∀ t : Fin cfg0.N, k0_off1 (grid0.coords t) = ![t.val % 4 * 512, 0] :=
  (by decide +kernel : ∀ t : Fin grid0.N, k0_off1 (grid0.coords t) = ![t.val % 4 * 512, 0])

/-- The keys a group's points share: the first point's key block, rotated and transposed. -/
def keys (c : Dev nD) (t : Fin cfg0.N) : Vec Ideal S128x2048 .bf16 :=
  k0_pay2 (iblk m c 1 t) (iblk m c 7 t) (iblk m c 3 t) (iblk m c 4 t) (iblk m c 5 t)

/-- A group's first point leaves its keys in the scratch. -/
theorem scratch_A (c : Dev nD) (t : Fin cfg0.N) (h0 : t.val % 4 = 0) : (outsAt0 m c t.val t.isLt).2 = keys m c t := by
  rw [outsAt0_A m c t h0]
  dsimp only
  frame_out
  rfl

/-- The other points leave the scratch as it was. -/
theorem scratch_B (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  rfl

/-- Four pieces side by side that agree with one function of the block's index are that function. -/
theorem canon4 (U : Fin 512 → Fin 512 → EReal) (P3 P2 P1 P0 : Vec Ideal S512x128 .bf16)
    (h3 : ∀ x, P3 x = U ((Rect.unit (s := S512x512) ![0, 384] S512x128.size inb_S512x512_S512x128_0_384).emb x 0) ((Rect.unit (s := S512x512) ![0, 384] S512x128.size inb_S512x512_S512x128_0_384).emb x 1))
    (h2 : ∀ x, P2 x = U ((Rect.unit (s := S512x512) ![0, 256] S512x128.size inb_S512x512_S512x128_0_256).emb x 0) ((Rect.unit (s := S512x512) ![0, 256] S512x128.size inb_S512x512_S512x128_0_256).emb x 1))
    (h1 : ∀ x, P1 x = U ((Rect.unit (s := S512x512) ![0, 128] S512x128.size inb_S512x512_S512x128_0_128).emb x 0) ((Rect.unit (s := S512x512) ![0, 128] S512x128.size inb_S512x512_S512x128_0_128).emb x 1))
    (h0 : ∀ x, P0 x = U ((Rect.unit (s := S512x512) ![0, 0] S512x128.size inb_S512x512_S512x128_0_0).emb x 0) ((Rect.unit (s := S512x512) ![0, 0] S512x128.size inb_S512x512_S512x128_0_0).emb x 1))
    (y : S512x512.Idx) :
    View.canon (Val := Elt Ideal) (s := S512x512) (e := .bf16) [⟨Rect.unit (s := S512x512) ![0, 384] S512x128.size inb_S512x512_S512x128_0_384, P3⟩,
      ⟨Rect.unit (s := S512x512) ![0, 256] S512x128.size inb_S512x512_S512x128_0_256, P2⟩, ⟨Rect.unit (s := S512x512) ![0, 128] S512x128.size inb_S512x512_S512x128_0_128, P1⟩,
      ⟨Rect.unit (s := S512x512) ![0, 0] S512x128.size inb_S512x512_S512x128_0_0, P0⟩] y = U (y 0) (y 1) := by
  refine View.canon_apply_of_pieces (Val := Elt Ideal) (S := S512x512) (e := .bf16) (fun y => U (y 0) (y 1)) _ ?_ y ?_
  · simp only [List.forall_mem_cons]
    exact ⟨h3, h2, h1, h0, by simp⟩
  · exact View.cover_of_tiledL (Val := Elt Ideal) (s := S512x512) (e := .bf16) _ S512x128.size (by sl_kernel_rfl) y

/-- What a group's first point leaves in the output's block. -/
theorem out_A (c : Dev nD) (t : Fin cfg0.N) (h0 : t.val % 4 = 0) (y : S512x512.Idx) : @Eq EReal ((outsAt0 m c t.val t.isLt).1 y)
    (blockOut (t.val % 4 * 512) (by omega) (iblk m c 0 t) (iblk m c 6 t) (iblk m c 3 t) (iblk m c 4 t) (iblk m c 5 t) (keys m c t) (iblk m c 2 t) (iblk m c 8 t) (y 0) (y 1)) := by
  rw [outsAt0_A m c t h0]
  dsimp only
  frame_out
  exact canon4 (blockOut (t.val % 4 * 512) (by omega) (iblk m c 0 t) (iblk m c 6 t) (iblk m c 3 t) (iblk m c 4 t) (iblk m c 5 t) (keys m c t) (iblk m c 2 t) (iblk m c 8 t)) _ _ _ _
    (fun x => head_piece _ _ 384 (by norm_num) (by norm_num) _ (off1_eq t) _ _ _ _ _ _ _ _ _ _ _ x)
    (fun x => head_piece _ _ 256 (by norm_num) (by norm_num) _ (off1_eq t) _ _ _ _ _ _ _ _ _ _ _ x)
    (fun x => head_piece _ _ 128 (by norm_num) (by norm_num) _ (off1_eq t) _ _ _ _ _ _ _ _ _ _ _ x)
    (fun x => head_piece _ _ 0 (by norm_num) (by norm_num) _ (off1_eq t) _ _ _ _ _ _ _ _ _ _ _ x) y

/-- What the other points leave there, over the scratch the point before left. -/
theorem out_B (c : Dev nD) (t : Fin cfg0.N) (h0 : ¬ t.val % 4 = 0) (y : S512x512.Idx) : @Eq EReal ((outsAt0 m c t.val t.isLt).1 y)
    (blockOut (t.val % 4 * 512) (by omega) (iblk m c 0 t) (iblk m c 6 t) (iblk m c 3 t) (iblk m c 4 t) (iblk m c 5 t) (outsAt0 m c (t.val - 1) (Nat.lt_of_le_of_lt (Nat.sub_le _ _) t.isLt)).2 (iblk m c 2 t) (iblk m c 8 t) (y 0) (y 1)) := by
  generalize hz : blockOut (t.val % 4 * 512) _ _ _ _ _ _ _ _ _ (y 0) (y 1) = z
  rw [outsAt0_B m c t h0]
  dsimp only
  frame_out
  generalize hk : (outsAt0 m c (t.val - 1) (Nat.lt_of_le_of_lt (Nat.sub_le _ _) t.isLt)).2 = k at *
  simp only [read_unread_whole]
  rw [← hz]
  exact canon4 (blockOut (t.val % 4 * 512) (by omega) (iblk m c 0 t) (iblk m c 6 t) (iblk m c 3 t) (iblk m c 4 t) (iblk m c 5 t) k (iblk m c 2 t) (iblk m c 8 t)) _ _ _ _
    (fun x => head_piece _ _ 384 (by norm_num) (by norm_num) _ (off1_eq t) _ _ _ _ _ _ _ _ _ _ _ x)
    (fun x => head_piece _ _ 256 (by norm_num) (by norm_num) _ (off1_eq t) _ _ _ _ _ _ _ _ _ _ _ x)
    (fun x => head_piece _ _ 128 (by norm_num) (by norm_num) _ (off1_eq t) _ _ _ _ _ _ _ _ _ _ _ x)
    (fun x => head_piece _ _ 0 (by norm_num) (by norm_num) _ (off1_eq t) _ _ _ _ _ _ _ _ _ _ _ x) y

end Cert.KernelIdeal.Att
-- ==== Proof.Final.lean ====
module

public import proofs.«01_k».proof.Proof.Host
public import proofs.«01_k».proof.Proof.Block

@[expose] public section
set_option maxRecDepth 16384
noncomputable section
namespace Cert.KernelIdeal.Att
open Cert.KernelIdeal Cert.KernelIdeal.Gen Idealize.ShloMosaic Idealize.ShloMosaic.TcCoe Idealize.SL.Sem
open Cert.Attention
variable (m : (ℓ : Loc nD τ sig) → Buf (Elt Ideal) ℓ)

/-- Which blocks a point works on: point `t` is batch `t / 8`, head group `t / 4 % 2`, query tile `t % 4`. -/
theorem indices : ∀ t : Fin cfg0.N,
    (win0_0.index t 0 = t.val / 8 * 4 + t.val % 4 ∧ win0_0.index t 1 = t.val / 4 % 2)
    ∧ (win0_1.index t 0 = t.val / 8 ∧ win0_1.index t 1 = 8 + t.val / 4 % 2)
    ∧ (win0_2.index t 0 = t.val / 8 ∧ win0_2.index t 1 = 10 + t.val / 4 % 2)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = t.val / 4 % 2)
    ∧ (win0_9.index t 0 = t.val / 8 * 4 + t.val % 4 ∧ win0_9.index t 1 = t.val / 4 % 2) :=
  (by decide +kernel : ∀ t : Fin grid0.N, _)

theorem t_lt (t : Fin cfg0.N) : t.val < 64 := lt_of_lt_of_eq t.isLt N_0

/-- The projected array the kernel reads. -/
abbrev arg (c : Dev nD) (r : Fin 16384) (k : Fin 4608) : EReal := m ((c : Thread nD τ).loc main_arg0) (ix2 r k)

theorem blk_q (c : Dev nD) (t : Fin cfg0.N) (r : Fin 512) (k : Fin 512) : @Eq EReal (iblk m c 0 t (ix2 r k))
    (arg m c ⟨(t.val / 8 * 4 + t.val % 4) * 512 + r.val, by have := t_lt t; omega⟩ ⟨t.val / 4 % 2 * 512 + k.val, by omega⟩) := by
  unfold iblk
  rw [View.read_apply]
  show V m c main_arg0 _ = _
  rw [V_main_arg0]
  refine congrArg (m _) (idx2_of ?_ ?_)
  · show win0_0.index t 0 * 512 + 1 * r.val = _; rw [(indices t).1.1]; dsimp only; omega
  · show win0_0.index t 1 * 512 + 1 * k.val = _; rw [(indices t).1.2]; dsimp only; omega

theorem blk_k (c : Dev nD) (t : Fin cfg0.N) (r : Fin 2048) (k : Fin 128) : @Eq EReal (iblk m c 1 t (ix2 r k))
    (arg m c ⟨t.val / 8 * 2048 + r.val, by have := t_lt t; omega⟩ ⟨1024 + t.val / 4 % 2 * 128 + k.val, by omega⟩) := by
  unfold iblk
  rw [View.read_apply]
  show V m c main_arg0 _ = _
  rw [V_main_arg0]
  refine congrArg (m _) (idx2_of ?_ ?_)
  · show win0_1.index t 0 * 2048 + 1 * r.val = _; rw [(indices t).2.1.1]; dsimp only; omega
  · show win0_1.index t 1 * 128 + 1 * k.val = _; rw [(indices t).2.1.2]; dsimp only; omega

theorem blk_v (c : Dev nD) (t : Fin cfg0.N) (r : Fin 2048) (k : Fin 128) : @Eq EReal (iblk m c 2 t (ix2 r k))
    (arg m c ⟨t.val / 8 * 2048 + r.val, by have := t_lt t; omega⟩ ⟨1280 + t.val / 4 % 2 * 128 + k.val, by omega⟩) := by
  unfold iblk
  rw [View.read_apply]
  show V m c main_arg0 _ = _
  rw [V_main_arg0]
  refine congrArg (m _) (idx2_of ?_ ?_)
  · show win0_2.index t 0 * 2048 + 1 * r.val = _; rw [(indices t).2.2.1.1]; dsimp only; omega
  · show win0_2.index t 1 * 128 + 1 * k.val = _; rw [(indices t).2.2.1.2]; dsimp only; omega

theorem blk_cos (c : Dev nD) (t : Fin cfg0.N) (p : Fin 2048) (k : Fin 128) : @Eq EReal (iblk m c 3 t (ix2 p k)) (tCos p k) := by
  rw [← V22_apply m c p k]
  unfold iblk
  rw [View.read_apply]
  refine congrArg (V m c main_v22) (idx2_of ?_ ?_)
  · show win0_3.index t 0 * 2048 + 1 * p.val = _; rw [(indices t).2.2.2.1.1]; omega
  · show win0_3.index t 1 * 128 + 1 * k.val = _; rw [(indices t).2.2.2.1.2]; omega

theorem blk_up (c : Dev nD) (t : Fin cfg0.N) (p : Fin 2048) (k : Fin 128) : @Eq EReal (iblk m c 4 t (ix2 p k)) (if k.val % 64 < 32 then -tSin p k else 0) := by
  rw [← V29_apply m c p k]
  unfold iblk
  rw [View.read_apply]
  refine congrArg (V m c main_v29) (idx2_of ?_ ?_)
  · show win0_4.index t 0 * 2048 + 1 * p.val = _; rw [(indices t).2.2.2.2.1.1]; omega
  · show win0_4.index t 1 * 128 + 1 * k.val = _; rw [(indices t).2.2.2.2.1.2]; omega

theorem blk_dn (c : Dev nD) (t : Fin cfg0.N) (p : Fin 2048) (k : Fin 128) : @Eq EReal (iblk m c 5 t (ix2 p k)) (if k.val % 64 < 32 then 0 else tSin p k) := by
  rw [← V30_apply m c p k]
  unfold iblk
  rw [View.read_apply]
  refine congrArg (V m c main_v30) (idx2_of ?_ ?_)
  · show win0_5.index t 0 * 2048 + 1 * p.val = _; rw [(indices t).2.2.2.2.2.1.1]; omega
  · show win0_5.index t 1 * 128 + 1 * k.val = _; rw [(indices t).2.2.2.2.2.1.2]; omega

theorem blk_qg (c : Dev nD) (t : Fin cfg0.N) (k : Fin 128) : @Eq EReal (iblk m c 6 t (ix2 0 k)) (m ((c : Thread nD τ).loc main_arg1) (ix1 k)) := by
  rw [← V31_apply m c k]
  unfold iblk
  rw [View.read_apply]
  refine congrArg (V m c main_v31) (idx2_of ?_ ?_)
  · show win0_6.index t 0 * 1 + 1 * 0 = _; rw [(indices t).2.2.2.2.2.2.1.1]; rfl
  · show win0_6.index t 1 * 128 + 1 * k.val = _; rw [(indices t).2.2.2.2.2.2.1.2]; omega

theorem blk_kg (c : Dev nD) (t : Fin cfg0.N) (k : Fin 128) : @Eq EReal (iblk m c 7 t (ix2 0 k)) (m ((c : Thread nD τ).loc main_arg2) (ix1 k)) := by
  rw [← V32_apply m c k]
  unfold iblk
  rw [View.read_apply]
  refine congrArg (V m c main_v32) (idx2_of ?_ ?_)
  · show win0_7.index t 0 * 1 + 1 * 0 = _; rw [(indices t).2.2.2.2.2.2.2.1.1]; rfl
  · show win0_7.index t 1 * 128 + 1 * k.val = _; rw [(indices t).2.2.2.2.2.2.2.1.2]; omega

theorem blk_og (c : Dev nD) (t : Fin cfg0.N) (k : Fin 512) : @Eq EReal (iblk m c 8 t (ix2 0 k))
    (m ((c : Thread nD τ).loc main_arg3) (ix1 ⟨t.val / 4 % 2 * 512 + k.val, by omega⟩)) := by
  rw [← V33_apply m c ⟨t.val / 4 % 2 * 512 + k.val, by omega⟩]
  unfold iblk
  rw [View.read_apply]
  refine congrArg (V m c main_v33) (idx2_of ?_ ?_)
  · show win0_8.index t 0 * 1 + 1 * 0 = _; rw [(indices t).2.2.2.2.2.2.2.2.1.1]; rfl
  · show win0_8.index t 1 * 512 + 1 * k.val = _; rw [(indices t).2.2.2.2.2.2.2.2.1.2]; dsimp only; omega

/-- A point's keys are the rotated keys of its batch and head group. -/
theorem keys_apply (c : Dev nD) (t : Fin cfg0.N) (e : Fin 128) (j : Fin 2048) : @Eq EReal (keys m c t (ix2 e j))
    (rot j (fun k => arg m c ⟨t.val / 8 * 2048 + j.val, by have := t_lt t; omega⟩ ⟨1024 + t.val / 4 % 2 * 128 + k.val, by omega⟩)
      (fun k => m ((c : Thread nD τ).loc main_arg2) (ix1 k)) e) := by
  unfold keys
  rw [pay2_apply]
  simp only [blk_k, blk_kg, blk_cos, blk_up, blk_dn]
  unfold rot
  rw [← rope3_eq]

/-- So two points of one group have the same keys. -/
theorem keys_group (c : Dev nD) (t t' : Fin cfg0.N) (h : t.val / 4 = t'.val / 4) : keys m c t = keys m c t' := by
  funext y
  obtain ⟨e, j, rfl⟩ : ∃ (e : Fin 128) (j : Fin 2048), y = ix2 e j := ⟨y 0, y 1, idx2_of rfl rfl⟩
  have h8 : t.val / 8 = t'.val / 8 := by omega
  have e1 := keys_apply m c t e j
  have e2 := keys_apply m c t' e j
  rw [e1, e2]
  simp only [h8, h]

/-- The scratch holds the group's keys at every point. -/
theorem scratch_eq (c : Dev nD) : ∀ (n : Nat) (hn : n < cfg0.N), (outsAt0 m c n hn).2 = keys m c ⟨n, hn⟩ := by
  intro n
  induction n with
  | zero => intro hn; exact scratch_A m c ⟨0, hn⟩ rfl
  | succ n ih =>
    intro hn
    by_cases h0 : (n + 1) % 4 = 0
    · exact scratch_A m c ⟨n + 1, hn⟩ h0
    · rw [scratch_B m c ⟨n + 1, hn⟩ h0]
      show (outsAt0 m c n _).2 = _
      rw [ih]
      exact keys_group m c _ _ (by dsimp only; omega)

/-- What every point leaves in the output's block. -/
theorem out_eq (c : Dev nD) (t : Fin cfg0.N) (y : S512x512.Idx) : @Eq EReal ((outsAt0 m c t.val t.isLt).1 y)
    (blockOut (t.val % 4 * 512) (by omega) (iblk m c 0 t) (iblk m c 6 t) (iblk m c 3 t) (iblk m c 4 t) (iblk m c 5 t) (keys m c t) (iblk m c 2 t) (iblk m c 8 t) (y 0) (y 1)) := by
  by_cases h0 : t.val % 4 = 0
  · exact out_A m c t h0 y
  · rw [out_B m c t h0 y, ← scratch_B m c t h0, scratch_eq m c t.val t.isLt]

end Cert.KernelIdeal.Att
-- ==== Proof.Array.lean ====
module

public import proofs.«01_k».proof.Proof.Final

@[expose] public section
set_option maxRecDepth 16384
noncomputable section
namespace Cert.KernelIdeal.Att
open Cert.KernelIdeal Cert.KernelIdeal.Gen Idealize.ShloMosaic Idealize.ShloMosaic.TcCoe Idealize.SL.Sem
open Cert.Attention
variable (m : (ℓ : Loc nD τ sig) → Buf (Elt Ideal) ℓ)

/-- An entry over rotated keys is the reference's entry: the scale moves out of the scores, the division into the weights. -/
theorem cell_eq (p : Fin 2048) (q g x4 x5 kg : Fin 128 → EReal) (kk v : Fin 2048 → Fin 128 → EReal) (og : EReal) (d : Fin 128)
    (h4 : x4 = fun e => if e.val % 64 < 32 then -tSin p e else 0) (h5 : x5 = fun e => if e.val % 64 < 32 then 0 else tSin p e) :
    cell q g (tCos p) x4 x5 (fun j e => rot j (kk j) kg e) v og d = nrm (headR (score p q g kk kg) v) d * og := by
  subst h4 h5
  unfold cell
  rw [nrm_head]
  congr 4
  funext j
  rw [score_eq]
  unfold score rot
  simp only [rope3_eq]

/-- The attention of the arguments as launched. -/
abbrev goal (c : Dev nD) (r : Fin 16384) (k : Fin 1024) : EReal :=
  attn (fun r k => m ((c : Thread nD τ).loc main_arg0) (ix2 r k)) (fun e => m ((c : Thread nD τ).loc main_arg1) (ix1 e))
    (fun e => m ((c : Thread nD τ).loc main_arg2) (ix1 e)) (fun e => m ((c : Thread nD τ).loc main_arg3) (ix1 e)) r k

/-- What a point leaves at a place of its block is the attention at that place of the array. -/
theorem out_goal (c : Dev nD) (t : Fin cfg0.N) (r k : Fin 512) : @Eq EReal ((outsAt0 m c t.val t.isLt).1 (ix2 r k))
    (goal m c ⟨(t.val / 8 * 4 + t.val % 4) * 512 + r.val, by have := t_lt t; omega⟩ ⟨t.val / 4 % 2 * 512 + k.val, by omega⟩) := by
  have ht := t_lt t
  refine (out_eq m c t (ix2 r k)).trans ?_
  show blockOut _ _ _ _ _ _ _ _ _ _ r k = _
  unfold blockOut goal attn
  simp only [blk_q, blk_v, blk_cos, blk_up, blk_dn, blk_qg, blk_og, keys_apply]
  refine (cell_eq ⟨t.val % 4 * 512 + r.val, by omega⟩ _ _ _ _ _ _ _ _ _ rfl rfl).trans ?_
  have e1 : ((t.val / 8 * 4 + t.val % 4) * 512 + r.val) % 2048 = t.val % 4 * 512 + r.val := by omega
  have e2 : ((t.val / 8 * 4 + t.val % 4) * 512 + r.val) / 2048 = t.val / 8 := by omega
  have e3 : (t.val / 4 % 2 * 512 + k.val) / 512 = t.val / 4 % 2 := by omega
  have e4 : (t.val / 4 % 2 * 512 + k.val) % 128 = k.val % 128 := by omega
  have e5 : ∀ e, (t.val / 4 % 2 * 512 + k.val) / 128 * 128 + e = t.val / 4 % 2 * 512 + (k.val / 128 * 128 + e) := by omega
  simp only [e1, e2, e3, e4, e5]

/-- The kernel's array after the run is the attention of its arguments. -/
theorem array_eq (c : Dev nD) : (dats m 0 c).arrAt 9 cfg0.N = fun i : S16384x1024.Idx => goal m c (i 0) (i 1) := by
  refine (dats m 0 c).arrAt_eq_of_covers 9 _ (by decide +kernel) fun t hf y => ?_
  blk_simp
  rw [after0_9]
  obtain ⟨r, k, rfl⟩ : ∃ (r : Fin 512) (k : Fin 512), y = ix2 r k := ⟨y 0, y 1, idx2_of rfl rfl⟩
  refine (out_goal m c t r k).trans (congrArg₂ (goal m c) (Fin.ext ?_) (Fin.ext ?_))
  · show _ = win0_9.index t 0 * 512 + 1 * r.val; rw [(indices t).2.2.2.2.2.2.2.2.2.1]; dsimp only; omega
  · show _ = win0_9.index t 1 * 512 + 1 * k.val; rw [(indices t).2.2.2.2.2.2.2.2.2.2]; dsimp only; omega

end Cert.KernelIdeal.Att
-- ==== Proof.Ref.lean ====
module

public import proofs.«01_k».proof.Proof.Gen.ReferenceIdeal.Run
public import proofs.«01_k».proof.Proof.Soft
public import Idealize.ShloMosaic.Lib.KernelVsHost

@[expose] public section
set_option maxRecDepth 16384
noncomputable section
namespace Cert.ReferenceIdeal.Att
open Cert.ReferenceIdeal Cert.ReferenceIdeal.Gen Cert.ReferenceIdeal.Value Idealize.ShloMosaic Idealize.ShloMosaic.TcCoe Idealize.SL.Sem Idealize.ShloMosaic.StableHlo
open Cert.Attention

variable (V0 : Valuation τ sig (Elt Ideal))

/-- The projected array, its gains: the four arguments by coordinates. -/
abbrev A (r : Fin 16384) (k : Fin 4608) : EReal := V0 (Proc.devRef .tc main_arg0) (ix2 r k)
abbrev qg (e : Fin 128) : EReal := V0 (Proc.devRef .tc main_arg1) (ix1 e)
abbrev kg (e : Fin 128) : EReal := V0 (Proc.devRef .tc main_arg2) (ix1 e)
abbrev og (e : Fin 1024) : EReal := V0 (Proc.devRef .tc main_arg3) (ix1 e)

/-- The angle table. -/
theorem v23 (p : Fin 2048) (d : Fin 128) : @Eq EReal (res_main_v23 V0 (ix2 p d)) (ang p d) := by
  pointwise [res_main_v23, res_main_v17, res_main_v22, res_main_v12]
  rfl
/-- Its cosines and sines. -/
theorem v24 (p : Fin 2048) (d : Fin 128) : @Eq EReal (res_main_v24 V0 (ix2 p d)) (tCos p d) := by
  have h := v23 V0 p d
  unfold res_main_v24
  generalize res_main_v23 V0 = a at *
  pointwise
  rw [h]; rfl
theorem v25 (p : Fin 2048) (d : Fin 128) : @Eq EReal (res_main_v25 V0 (ix2 p d)) (tSin p d) := by
  have h := v23 V0 p d
  unfold res_main_v25
  generalize res_main_v23 V0 = a at *
  pointwise
  rw [h]; rfl
/-- The normalised queries. -/
theorem v46 (b : Fin 8) (p : Fin 2048) (h : Fin 8) (d : Fin 128) :
    @Eq EReal (res_main_v46 V0 (ix4 b p h d)) (nrmG (fun e => A V0 ⟨b.val * 2048 + p.val, by omega⟩ ⟨h.val * 128 + e.val, by omega⟩) (qg V0) d) := by
  pointwise [res_main_v46, res_main_v31, res_main_v27]
  rfl
/-- The normalised keys. -/
theorem v76 (b : Fin 8) (p : Fin 2048) (h : Fin 2) (d : Fin 128) :
    @Eq EReal (res_main_v76 V0 (ix4 b p h d)) (nrmG (fun e => A V0 ⟨b.val * 2048 + p.val, by omega⟩ ⟨1024 + (h.val * 128 + e.val), by omega⟩) (kg V0) d) := by
  pointwise [res_main_v76, res_main_v32, res_main_v27]
  rfl
/-- The same, the last coordinate split for the rotation. -/
theorem v50 (b : Fin 8) (p : Fin 2048) (h : Fin 8) (a e : Fin 2) (f : Fin 32) :
    @Eq EReal (res_main_v50 V0 (ix6 b p h a e f)) (nrmG (fun e => A V0 ⟨b.val * 2048 + p.val, by omega⟩ ⟨h.val * 128 + e.val, by omega⟩) (qg V0) ⟨a.val * 64 + e.val * 32 + f.val, by omega⟩) := by
  rw [← v46]
  unfold res_main_v50
  generalize res_main_v46 V0 = x
  pointwise
theorem v80 (b : Fin 8) (p : Fin 2048) (h : Fin 2) (a e : Fin 2) (f : Fin 32) :
    @Eq EReal (res_main_v80 V0 (ix6 b p h a e f)) (nrmG (fun e => A V0 ⟨b.val * 2048 + p.val, by omega⟩ ⟨1024 + (h.val * 128 + e.val), by omega⟩) (kg V0) ⟨a.val * 64 + e.val * 32 + f.val, by omega⟩) := by
  rw [← v76]
  unfold res_main_v80
  generalize res_main_v76 V0 = x
  pointwise
end Cert.ReferenceIdeal.Att
-- ==== Proof.RefScore.lean ====
module

public import proofs.«01_k».proof.Proof.Gen.ReferenceIdeal.Run
public import proofs.«01_k».proof.Proof.Soft
public import proofs.«01_k».proof.Proof.Ref
public import Idealize.ShloMosaic.Lib.KernelVsHost

@[expose] public section
set_option maxRecDepth 16384
noncomputable section
namespace Cert.ReferenceIdeal.Att
open Cert.ReferenceIdeal Cert.ReferenceIdeal.Gen Cert.ReferenceIdeal.Value Idealize.ShloMosaic Idealize.ShloMosaic.TcCoe Idealize.SL.Sem Idealize.ShloMosaic.StableHlo
open Cert.Attention

variable (V0 : Valuation τ sig (Elt Ideal))
/-- The scaled scores. -/
theorem v98 (b : Fin 8) (p p' : Fin 2048) (h : Fin 2) (g : Fin 4) :
    @Eq EReal (res_main_v98 V0 (ix5 b h g p p')) (score p (fun e => A V0 ⟨b.val * 2048 + p.val, by omega⟩ ⟨(h.val * 4 + g.val) * 128 + e.val, by omega⟩) (qg V0)
      (fun j e => A V0 ⟨b.val * 2048 + j.val, by omega⟩ ⟨1024 + (h.val * 128 + e.val), by omega⟩) (kg V0) p') := by
  have h1 := v24 V0
  have h2 := v25 V0
  have h3 := v46 V0
  have h4 := v50 V0
  have h5 := v76 V0
  have h6 := v80 V0
  unfold res_main_v98
  generalize res_main_v24 V0 = a at *
  generalize res_main_v25 V0 = b at *
  generalize res_main_v46 V0 = c at *
  generalize res_main_v50 V0 = d at *
  generalize res_main_v76 V0 = e at *
  generalize res_main_v80 V0 = f at *
  pointwise
  unfold score rot ropeR
  simp only [h1, h2, h3, h4, h5, h6]
  refine congrArg (· * cScale) (Finset.sum_congr rfl fun x _ => ?_)
  by_cases hx : x.val / 32 % 2 < 1
  · simp only [dif_pos hx, if_pos hx]; rfl
  · simp only [dif_neg hx, if_neg hx]; rfl
end Cert.ReferenceIdeal.Att
-- ==== Proof.RefSoft.lean ====
module

public import proofs.«01_k».proof.Proof.Gen.ReferenceIdeal.Run
public import proofs.«01_k».proof.Proof.Soft
public import proofs.«01_k».proof.Proof.Ref
public import Idealize.ShloMosaic.Lib.KernelVsHost

@[expose] public section
set_option maxRecDepth 16384
noncomputable section
namespace Cert.ReferenceIdeal.Att
open Cert.ReferenceIdeal Cert.ReferenceIdeal.Gen Cert.ReferenceIdeal.Value Idealize.ShloMosaic Idealize.ShloMosaic.TcCoe Idealize.SL.Sem Idealize.ShloMosaic.StableHlo
open Cert.Attention

variable (V0 : Valuation τ sig (Elt Ideal))
/-- The greatest of a row, from the least value, at any extents. -/
theorem maxRow {n0 n1 n2 n3 n4 : Nat} {u : Shape} (x : FVec Ideal ⟨5, ![n0, n1, n2, n3, n4]⟩ .f32)
    (hr : (⟨5, ![n0, n1, n2, n3, n4]⟩ : Shape).ReducesTo [4] ⟨4, ![n0, n1, n2, n3]⟩) (hu : 0 < u.numel) (a : Fin n0) (b : Fin n1) (c : Fin n2) (d : Fin n3) :
    @Eq EReal ((Host.reduce FloatOps.maximumf x (constant (F := Ideal) u .f32 0xFF800000#32) hr hu : FVec Ideal ⟨4, ![n0, n1, n2, n3]⟩ .f32) (ix4 a b c d)) (rowMax (fun j => x (ix5 a b c d j))) := by
  rw [Host.reduce_eq_fold, hr.fold_fiber_r5_a4]
  rfl
/-- Exponentials with a row's value taken off first. -/
theorem exp_apply (x : FVec Ideal S8x2x4x2048x2048 .f32) (y : FVec Ideal S8x2x4x2048 .f32) (b : Fin 8) (p p' : Fin 2048) (h : Fin 2) (g : Fin 4) :
    @Eq EReal (Host.exp (subf x (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 (maximumf (broadcastInDim S8x2x4x2048 ![] bcast_S_S8x2x4x2048 (constant S_ .f32 0xFF800000#32)) y)))) (ix5 b h g p p'))
      (Ideal.exp ((x (ix5 b h g p p') : EReal) - max cBot (y (ix4 b h g p) : EReal))) := by
  pointwise
/-- So are the reference's, over its scores. -/
theorem v105 (b : Fin 8) (p p' : Fin 2048) (h : Fin 2) (g : Fin 4) (s : Fin 2048 → EReal) (hs : ∀ j, res_main_v98 V0 (ix5 b h g p j) = s j) :
    @Eq EReal (res_main_v105 V0 (ix5 b h g p p')) (wt s p') := by
  unfold res_main_v105
  refine (exp_apply (res_main_v98 V0) _ b p p' h g).trans ?_
  rw [maxRow, max_cBot_rowMax]
  unfold wt
  rw [hs, funext hs]
/-- The heads' rows. -/
theorem v113 (b : Fin 8) (p : Fin 2048) (h : Fin 8) (d : Fin 128) (s : Fin 2048 → EReal) (hs : ∀ j, res_main_v98 V0 (ix5 b ⟨h.val / 4, by omega⟩ ⟨h.val % 4, by omega⟩ p j) = s j) :
    @Eq EReal (res_main_v113 V0 (ix4 b p h d)) (headR s (fun j e => A V0 ⟨b.val * 2048 + j.val, by omega⟩ ⟨1280 + (h.val / 4 * 128 + e.val), by omega⟩) d) := by
  have h1 := fun j => v105 V0 b p j _ _ s hs
  unfold res_main_v113
  generalize res_main_v105 V0 = x at *
  pointwise [res_main_v27]
  simp only [h1]
  rfl

/-- The reference's result as its run names it. -/
abbrev res : Vec Ideal S16384x1024 .bf16 :=
  truncf .bf16 (shapeCast _ (mulf (shapeCast _ (mulf (mulf (res_main_v113 V0) (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf (res_main_v113 V0) (res_main_v113 V0)) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (broadcastInDim S128 ![] bcast_S_S128 (constant S_ .f32 0x3F800000#32))))) shapeCasts_S8x2048x8x128_S8x2048x1024) (broadcastInDim S8x2048x1024 ![0, 1, 2] bcast_S1x1x1024_S8x2048x1024_0_1_2 (broadcastInDim S1x1x1024 ![2] bcast_S1024_S1x1x1024_2 (V0 (Proc.devRef .tc main_arg3))))) shapeCasts_S8x2048x1024_S16384x1024) bitsLt_bf16_f32

/-- Its entry is the head's row, normalised and scaled. -/
theorem res_apply (r : Fin 16384) (k : Fin 1024) (w : Fin 8 → Fin 2048 → Fin 8 → Fin 128 → EReal) (hw : ∀ b p h d, res_main_v113 V0 (ix4 b p h d) = w b p h d) :
    @Eq EReal (res V0 (ix2 r k)) (nrm (w ⟨r.val / 2048, by omega⟩ ⟨r.val % 2048, by omega⟩ ⟨k.val / 128, by omega⟩) ⟨k.val % 128, by omega⟩ * og V0 k) := by
  unfold res
  generalize res_main_v113 V0 = x at *
  pointwise
  simp only [hw]
  rfl
end Cert.ReferenceIdeal.Att
-- ==== Proof.Tie.lean ====
module

public import proofs.«01_k».proof.Proof.RefScore
public import proofs.«01_k».proof.Proof.RefSoft

@[expose] public section
set_option maxRecDepth 16384
noncomputable section
namespace Cert.ReferenceIdeal.Att
open Cert.ReferenceIdeal Cert.ReferenceIdeal.Gen Cert.ReferenceIdeal.Value Idealize.ShloMosaic Idealize.ShloMosaic.TcCoe Idealize.SL.Sem Idealize.ShloMosaic.StableHlo
open Cert.Attention
variable (V0 : Valuation τ sig (Elt Ideal))

/-- The reference's result is the attention of its arguments. -/
theorem res_eq (r : Fin 16384) (k : Fin 1024) : @Eq EReal (res V0 (ix2 r k)) (attn (A V0) (qg V0) (kg V0) (og V0) r k) := by
  rw [res_apply V0 r k _ (fun b p h d => v113 V0 b p h d _ (fun j => v98 V0 b p j _ _))]
  unfold attn
  have e1 : ∀ e, (k.val / 128 / 4 * 4 + k.val / 128 % 4) * 128 + e = k.val / 128 * 128 + e := by omega
  have e2 : r.val / 2048 * 2048 + r.val % 2048 = r.val := by omega
  have e3 : ∀ z e, z + (k.val / 128 / 4 * 128 + e) = z + k.val / 512 * 128 + e := by omega
  simp only [e1, e2, e3]
end Cert.ReferenceIdeal.Att
-- ==== Proof.Claims.lean ====
module

public import proofs.«01_k».proof.Defs
public import proofs.«01_k».proof.Proof.Array
public import proofs.«01_k».proof.Proof.Tie
public import proofs.«01_k».proof.Proof.Gen.Kernel.Frame
public import proofs.«01_k».proof.Proof.Gen.KernelIdeal.Frame
public import Idealize.ShloMosaic.Lib.Claim

@[expose] public section
noncomputable section
namespace Cert.Proof.Att
open Idealize.ShloMosaic Idealize.ShloMosaic.TcCoe Idealize.SL.Sem

/-- The reference ends with its arguments as they were and every semaphore at zero. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with the same array: the attention of the arguments. -/
theorem algebraic : Cert.algebraic_KernelIdeal_ReferenceIdeal := by
  intro m g m' g' _ hag
  refine ⟨fun c => fun i : Cert.KernelIdeal.S16384x1024.Idx => Cert.KernelIdeal.Att.goal m c (i 0) (i 1), ?_, ?_⟩
  · exact (θ_run Cert.KernelIdeal.defs _ _).mono (fun r h c => ⟨((h c).1).trans (Cert.KernelIdeal.Att.array_eq m c), (h c).2⟩)
      (Cert.KernelIdeal.Value.run_blocks (F := Ideal) m g)
  · refine (θ_run Cert.ReferenceIdeal.defs _ _).mono (fun r h c => ⟨((h c).1).trans (funext fun y => ?_), (h c).2⟩)
      (Cert.ReferenceIdeal.Value.run (F := Ideal) m' g')
    obtain ⟨h0, h1, h2, h3⟩ := hag c
    have hy : y = ix2 (y 0) (y 1) := Cert.KernelIdeal.Att.idx2_of rfl rfl
    rw [hy]
    refine (Cert.ReferenceIdeal.Att.res_eq (StableHlo.launchContents m' c) (y 0) (y 1)).trans ?_
    unfold Cert.KernelIdeal.Att.goal
    have e0 : Cert.ReferenceIdeal.Att.A (StableHlo.launchContents m' c) = fun r k => m ((c.tc : Thread Cert.KernelIdeal.nD Cert.KernelIdeal.τ).loc Cert.KernelIdeal.main_arg0) (ix2 r k) := by
      funext r k; exact congrFun h0 (ix2 r k)
    have e1 : Cert.ReferenceIdeal.Att.qg (StableHlo.launchContents m' c) = fun e => m ((c.tc : Thread Cert.KernelIdeal.nD Cert.KernelIdeal.τ).loc Cert.KernelIdeal.main_arg1) (ix1 e) := by
      funext e; exact congrFun h1 (ix1 e)
    have e2 : Cert.ReferenceIdeal.Att.kg (StableHlo.launchContents m' c) = fun e => m ((c.tc : Thread Cert.KernelIdeal.nD Cert.KernelIdeal.τ).loc Cert.KernelIdeal.main_arg2) (ix1 e) := by
      funext e; exact congrFun h2 (ix1 e)
    have e3 : Cert.ReferenceIdeal.Att.og (StableHlo.launchContents m' c) = fun e => m ((c.tc : Thread Cert.KernelIdeal.nD Cert.KernelIdeal.τ).loc Cert.KernelIdeal.main_arg3) (ix1 e) := by
      funext e; exact congrFun h3 (ix1 e)
    rw [e0, e1, e2, e3]
    rfl
end Cert.Proof.Att
-- ==== Proof.MoeRuns.lean ====
/- One grid point of the experts' call: what the body leaves in the output's staging buffer on each of its four
   paths — first or later hidden block, live or dead tile —, over any float values. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables the kernel is handed, whole. -/
abbrev tbM0_0 : Memref sig .tc .smem S72 .i32 := Memref.whole main_arg1
abbrev tbM0_1 : Memref sig .tc .smem S1 .i32 := Memref.whole main_arg2

/-! ## The body, path by path -/

/-- One staging buffer of the output, through which its contents are stated. -/
abbrev VO0_4 : View sig .tc .vmem S512x2048 .f32 := (Memref.whole cc0_stg4_0 : Memref sig .tc .vmem S512x2048 .f32).view

set_option backward.proofsInPublic true in
set_option maxHeartbeats 8000000 in
/-- The first hidden block of a live tile: run on whole staging buffers, the body terminates, gives its inputs and tables back and
    leaves the output's buffer as stated. -/
noncomputable def kernelRun0_A (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (k0_h1 : k0_cond1 i = 1#1) (k0_h2 : k0_cond2 i (View.readAt (Elt F) (tbM0_1).view (Rect.unit (s := S1) ![0] S1.size inb_S1_S1_0).toLoadRect T1 (Shape.Idx.first (numel1_S1.symm ▸ Nat.one_pos))) = 1#1) :
    { out0 : List (View.Piece (Elt F) S512x2048 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ = _; exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- First hidden block of a live tile: the body's stores cover the output's buffer. -/
theorem cover0_A_4 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (k0_h1 : k0_cond1 i = 1#1) (k0_h2 : k0_cond2 i (View.readAt (Elt F) (tbM0_1).view (Rect.unit (s := S1) ![0] S1.size inb_S1_S1_0).toLoadRect T1 (Shape.Idx.first (numel1_S1.symm ▸ Nat.one_pos))) = 1#1) (y : S512x2048.Idx) :
    ∃ pc ∈ (kernelRun0_A c i arg4 harg4 arg5 harg5 arg6 harg6 arg7 harg7 arg8 harg8 T0 T1 x0 x1 x2 x3 k0_h1 k0_h2).1, y ∈ pc.1.set :=
  View.cover_of_tiledL (kernelRun0_A c i arg4 harg4 arg5 harg5 arg6 harg6 arg7 harg7 arg8 harg8 T0 T1 x0 x1 x2 x3 k0_h1 k0_h2).1 S512x2048.size (by sl_kernel_rfl) y

/-- First hidden block of a live tile: what the body leaves in the output's buffer. -/
def out0_A_4 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (k0_h1 : k0_cond1 i = 1#1) (k0_h2 : k0_cond2 i (View.readAt (Elt F) (tbM0_1).view (Rect.unit (s := S1) ![0] S1.size inb_S1_S1_0).toLoadRect T1 (Shape.Idx.first (numel1_S1.symm ▸ Nat.one_pos))) = 1#1) : (S512x2048.Idx → Elt F .f32) :=
  VO0_4.read (Elt F) (VO0_4.writes (Elt F) VO0_4.junk (kernelRun0_A c i arg4 harg4 arg5 harg5 arg6 harg6 arg7 harg7 arg8 harg8 T0 T1 x0 x1 x2 x3 k0_h1 k0_h2).1)

set_option backward.proofsInPublic true in
set_option maxHeartbeats 8000000 in
/-- The later hidden block of a live tile: run on whole staging buffers, the body terminates, gives its inputs and tables back and
    leaves the output's buffer as stated. -/
noncomputable def kernelRun0_B (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (xo4 : (S512x2048.Idx → Elt F .f32)) (k0_h1 : ¬(k0_cond1 i = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) :
    { out0 : List (View.Piece (Elt F) S512x2048 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare xo4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = ¬(k0_cond1 _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- Later hidden block of a live tile: the body's stores cover the output's buffer. -/
theorem cover0_B_4 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (xo4 : (S512x2048.Idx → Elt F .f32)) (k0_h1 : ¬(k0_cond1 i = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) (y : S512x2048.Idx) :
    ∃ pc ∈ (kernelRun0_B c i arg4 harg4 arg5 harg5 arg6 harg6 arg7 harg7 arg8 harg8 T0 T1 x0 x1 x2 x3 xo4 k0_h1 k0_h2).1, y ∈ pc.1.set :=
  View.cover_of_tiledL (kernelRun0_B c i arg4 harg4 arg5 harg5 arg6 harg6 arg7 harg7 arg8 harg8 T0 T1 x0 x1 x2 x3 xo4 k0_h1 k0_h2).1 S512x2048.size (by sl_kernel_rfl) y

/-- Later hidden block of a live tile: what the body leaves in the output's buffer. -/
def out0_B_4 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (xo4 : (S512x2048.Idx → Elt F .f32)) (k0_h1 : ¬(k0_cond1 i = 1#1)) (k0_h2 : k0_cond2 i (View.readAt (Elt F) (tbM0_1).view (Rect.unit (s := S1) ![0] S1.size inb_S1_S1_0).toLoadRect T1 (Shape.Idx.first (numel1_S1.symm ▸ Nat.one_pos))) = 1#1) : (S512x2048.Idx → Elt F .f32) :=
  VO0_4.read (Elt F) (VO0_4.writes (Elt F) VO0_4.junk (kernelRun0_B c i arg4 harg4 arg5 harg5 arg6 harg6 arg7 harg7 arg8 harg8 T0 T1 x0 x1 x2 x3 xo4 k0_h1 k0_h2).1)

set_option backward.proofsInPublic true in
set_option maxHeartbeats 8000000 in
/-- The first hidden block of a dead tile: run on whole staging buffers, the body terminates, gives its inputs and tables back and
    leaves the output's buffer as stated. -/
noncomputable def kernelRun0_C (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (k0_h1 : k0_cond1 i = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) :
    { out0 : List (View.Piece (Elt F) S512x2048 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, ⟨%d4, %f4, -, HO4⟩, Hk⟩
    have hT0 : tbM0_0.IsWhole := Memref.isWhole_whole _
    have hT1 : tbM0_1.IsWhole := Memref.isWhole_whole _
    sl_exec! (disch := first | (guard_target = k0_cond1 _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; iexact HO4⟩

/-- First hidden block of a dead tile: the body's stores cover the output's buffer. -/
theorem cover0_C_4 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (k0_h1 : k0_cond1 i = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) (y : S512x2048.Idx) :
    ∃ pc ∈ (kernelRun0_C c i arg4 harg4 arg5 harg5 arg6 harg6 arg7 harg7 arg8 harg8 T0 T1 x0 x1 x2 x3 k0_h1 k0_h2).1, y ∈ pc.1.set :=
  View.cover_of_tiledL (kernelRun0_C c i arg4 harg4 arg5 harg5 arg6 harg6 arg7 harg7 arg8 harg8 T0 T1 x0 x1 x2 x3 k0_h1 k0_h2).1 S512x2048.size (by sl_kernel_rfl) y

/-- First hidden block of a dead tile: what the body leaves in the output's buffer. -/
def out0_C_4 (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (k0_h1 : k0_cond1 i = 1#1) (k0_h2 : ¬(k0_cond2 i (View.readAt (Elt F) (tbM0_1).view (Rect.unit (s := S1) ![0] S1.size inb_S1_S1_0).toLoadRect T1 (Shape.Idx.first (numel1_S1.symm ▸ Nat.one_pos))) = 1#1)) : (S512x2048.Idx → Elt F .f32) :=
  VO0_4.read (Elt F) (VO0_4.writes (Elt F) VO0_4.junk (kernelRun0_C c i arg4 harg4 arg5 harg5 arg6 harg6 arg7 harg7 arg8 harg8 T0 T1 x0 x1 x2 x3 k0_h1 k0_h2).1)

set_option maxHeartbeats 8000000 in
/-- The later hidden block of a dead tile: run on whole staging buffers, the body terminates, gives its inputs and tables back and
    leaves the output's buffer as stated. -/
noncomputable def kernelRun0_D (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : (S72.Idx → Elt F .i32)) (T1 : (S1.Idx → Elt F .i32))
     (x0 : (S512x2048.Idx → Elt F .bf16)) (x1 : (S1x2048x1024.Idx → Elt F .bf16)) (x2 : (S1x2048x1024.Idx → Elt F .bf16)) (x3 : (S1x1024x2048.Idx → Elt F .bf16)) (k0_h1 : ¬(k0_cond1 i = 1#1)) (k0_h2 : ¬(k0_cond2 i (View.readAt (Elt F) (tbM0_1).view (Rect.unit (s := S1) ![0] S1.size inb_S1_S1_0).toLoadRect T1 (Shape.Idx.first (numel1_S1.symm ▸ Nat.one_pos))) = 1#1)) :
    { out : Unit //
      ∀ (y4 : (S512x2048.Idx → Elt F .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4) -∗ K ⟨⟩))
          ⊢ wp frame (wpE (defs₀ (F := F)) Variants.none c none) Set.univ (cc0_moe_ffn i tbM0_0 (Memref.isWhole_whole _) tbM0_1 (Memref.isWhole_whole _) arg4 harg4 arg5 harg5 arg6 harg6 arg7 harg7 arg8 harg8) K } :=
  ⟨⟨⟩, fun (y4 : (S512x2048.Idx → Elt F .f32)) K => by
    unfold owns
    rw [cc0_moe_ffn_eq_skeleton]; unfold cc0_moe_ffn_skel
    iintro ⟨H0, H1, H2, H3, HT0, HT1, ⟨%f4, %hf4, HO4⟩, Hk⟩
    obtain rfl := harg8.eq_unread hf4
    have hT0 : tbM0_0.IsWhole := Memref.isWhole_whole _
    have hT1 : tbM0_1.IsWhole := Memref.isWhole_whole _
    sl_exec! (disch := first | (guard_target = ¬(k0_cond1 _ = _); exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [HT0]; · iexact HT0
    isplitl [HT1]; · iexact HT1
    iexists _; isplitr; · ipureintro; exact harg8.read_unread _
    iexact HO4⟩

end Cert.Kernel2Ideal.Moe

end
-- ==== Proof.MoeFrame.lean ====
/- The experts' call point by point, whatever its two tables hold within their bounds: what the output's staging buffer
   holds after each grid point, the body's obligation, and the run of the whole program, over any float values. -/
module

public import proofs.«01_k».proof.Proof.MoeRuns
public import Idealize.ShloMosaic.Lib.Pipeline.Frame
public import Idealize.ShloMosaic.Lib.Pipeline.Quiescent
public import Idealize.ShloMosaic.Lib.Pipeline.TableIdle
public import Idealize.ShloMosaic.Lib.Claim
public import Idealize.ShloMosaic.Lib.Writes
public import Idealize.ShloMosaic.Adequacy
public import Idealize.ShloMosaic.Init

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The schedule -/

/-- The hidden block is the first at the points divisible by four. -/
theorem cond1_iff : ∀ t : Fin grid0.N, k0_cond1 (grid0.coords t) = 1#1 ↔ t.val % 4 = 0 := by decide +kernel

/-- The output's block is written back after each tile's last hidden block. -/
theorem flushOf4 : ∀ t : Fin grid0.N, Pipeline.Window.flushOf grid0 true cc0_transform_4 t = decide (t.val % 4 = 3) := by decide +kernel

variable (a : (pcfg0 (F := F)).Adm)

theorem flush4 (t : Fin (cfg0 a).N) : ((cfg0 a).win (4 : Fin 5)).flush t = decide (t.val % 4 = 3) :=
  (Pipeline.Window.flush_eq_flushOf ((cfg0 a).win (4 : Fin 5)) t).trans (flushOf4 t)

/-- The tables the call is handed: each tile's expert, and the number of live tiles. -/
abbrev tab0 : S72.Idx → Elt F .i32 := a.1 0
abbrev tab1 : S1.Idx → Elt F .i32 := a.1 1

/-- Point `t`'s coordinates. -/
abbrev crd (t : Fin (cfg0 a).N) : (cfg0 a).grid.Coords := (cfg0 a).grid.coords t

/-- The hidden block is the first, and the tile is live. -/
abbrev P0_0 (t : Fin (cfg0 a).N) : Prop := k0_cond1 (crd a t) = 1#1
abbrev P0_1 (t : Fin (cfg0 a).N) : Prop := k0_cond2 (crd a t) (View.readAt (Elt F) (tbM0_1).view (Rect.unit (s := S1) ![0] S1.size inb_S1_S1_0).toLoadRect (tab1 a) (Shape.Idx.first (numel1_S1.symm ▸ Nat.one_pos))) = 1#1

/-- The number of live tiles as the schedule reads it is the word the body loads. -/
theorem word_eq : a.1.atD 1 ![0] = View.readAt (Elt F) (tbM0_1).view (Rect.unit (s := S1) ![0] S1.size inb_S1_S1_0).toLoadRect (tab1 a) (Shape.Idx.first (numel1_S1.symm ▸ Nat.one_pos)) := by
  refine (dif_pos (show ∀ a : Fin 1, (![0] : Fin 1 → Nat) a + 1 ≤ S1.size a by decide)).trans ?_
  refine congrArg (a.1 1) ?_
  funext x
  exact match x with
    | ⟨0, _⟩ => @Subsingleton.elim (Fin 1) _ _ _

theorem idle4 (t : Fin (cfg0 a).N) : (cfg0 a).idle (4 : Fin 5) ((cfg0 a).grid.coords t) = (!(decide (P0_0 a t)) && !(decide (P0_1 a t))) := by
  show (!(k0_cond1 (crd a t) == 1#1) && !(k0_cond2 (crd a t) (a.1.atD 1 ![0]) == 1#1)) = _
  rw [word_eq]
  rfl

/-- The output's buffer holds nothing of the current block exactly before a tile's first hidden block. -/
theorem fresh4 (t : Fin (cfg0 a).N) : (cfg0 a).fresh (4 : Fin 5) t.val = decide (t.val % 4 = 0) :=
  Pipeline.Cfg.fresh_tab (cfg0 a) (4 : Fin 5) (fun n => decide (n % 4 = 0)) rfl (fun t => by
    rw [flush4, idle4]
    beta_reduce
    by_cases h : t.val % 4 = 0
    · rw [decide_eq_true (show P0_0 a t from (cond1_iff t).mpr h), decide_eq_false (show ¬ t.val % 4 = 3 by omega), decide_eq_false (show ¬ (t.val + 1) % 4 = 0 by omega)]
      rfl
    · rw [decide_eq_false h, Bool.and_false, Bool.or_false, decide_eq_decide]
      omega) t.val (Nat.le_of_lt t.isLt)

theorem sched0_A (t : Fin (cfg0 a).N) (q0 : P0_0 a t) (q1 : P0_1 a t) :
    (cfg0 a).idle (4 : Fin 5) ((cfg0 a).grid.coords t) = false ∧ ((cfg0 a).win (4 : Fin 5)).flush t = false ∧ (cfg0 a).fresh (4 : Fin 5) t.val = true := by
  have h := (cond1_iff t).mp q0
  exact ⟨by rw [idle4, decide_eq_true q0]; rfl, by rw [flush4]; exact decide_eq_false (by omega), by rw [fresh4]; exact decide_eq_true h⟩

theorem sched0_C (t : Fin (cfg0 a).N) (q0 : P0_0 a t) (q1 : ¬P0_1 a t) :
    (cfg0 a).idle (4 : Fin 5) ((cfg0 a).grid.coords t) = false ∧ ((cfg0 a).win (4 : Fin 5)).flush t = false ∧ (cfg0 a).fresh (4 : Fin 5) t.val = true := by
  have h := (cond1_iff t).mp q0
  exact ⟨by rw [idle4, decide_eq_true q0]; rfl, by rw [flush4]; exact decide_eq_false (by omega), by rw [fresh4]; exact decide_eq_true h⟩

theorem sched0_B (t : Fin (cfg0 a).N) (q0 : ¬P0_0 a t) (q1 : P0_1 a t) :
    (cfg0 a).idle (4 : Fin 5) ((cfg0 a).grid.coords t) = false ∧ (cfg0 a).fresh (4 : Fin 5) t.val = false := by
  have h := fun h => q0 ((cond1_iff t).mpr h)
  exact ⟨by rw [idle4, decide_eq_true q1]; exact Bool.and_false _, by rw [fresh4]; exact decide_eq_false h⟩

theorem sched0_D (t : Fin (cfg0 a).N) (q0 : ¬P0_0 a t) (q1 : ¬P0_1 a t) :
    (cfg0 a).idle (4 : Fin 5) ((cfg0 a).grid.coords t) = true ∧ (cfg0 a).fresh (4 : Fin 5) t.val = false := by
  have h := fun h => q0 ((cond1_iff t).mpr h)
  exact ⟨by rw [idle4, decide_eq_false q0, decide_eq_false q1]; rfl, by rw [fresh4]; exact decide_eq_false h⟩

/-- Each window's current staging memref at point `t`, and its wholeness. -/
abbrev ms0_0 (t : Fin (cfg0 a).N) : Memref sig .tc .vmem S512x2048 .bf16 := spec0_0.stage ((cfg0 a).slots t (0 : Fin 5))
abbrev hs0_0 (t : Fin (cfg0 a).N) : (ms0_0 a t).IsWhole := hstage0_0 (((cfg0 a).slots t (0 : Fin 5)).cast nbuf0_0)
abbrev ms0_1 (t : Fin (cfg0 a).N) : Memref sig .tc .vmem S1x2048x1024 .bf16 := spec0_1.stage ((cfg0 a).slots t (1 : Fin 5))
abbrev hs0_1 (t : Fin (cfg0 a).N) : (ms0_1 a t).IsWhole := hstage0_1 (((cfg0 a).slots t (1 : Fin 5)).cast nbuf0_1)
abbrev ms0_2 (t : Fin (cfg0 a).N) : Memref sig .tc .vmem S1x2048x1024 .bf16 := spec0_2.stage ((cfg0 a).slots t (2 : Fin 5))
abbrev hs0_2 (t : Fin (cfg0 a).N) : (ms0_2 a t).IsWhole := hstage0_2 (((cfg0 a).slots t (2 : Fin 5)).cast nbuf0_2)
abbrev ms0_3 (t : Fin (cfg0 a).N) : Memref sig .tc .vmem S1x1024x2048 .bf16 := spec0_3.stage ((cfg0 a).slots t (3 : Fin 5))
abbrev hs0_3 (t : Fin (cfg0 a).N) : (ms0_3 a t).IsWhole := hstage0_3 (((cfg0 a).slots t (3 : Fin 5)).cast nbuf0_3)
abbrev ms0_4 (t : Fin (cfg0 a).N) : Memref sig .tc .vmem S512x2048 .f32 := spec0_4.stage ((cfg0 a).slots t (4 : Fin 5))
abbrev hs0_4 (t : Fin (cfg0 a).N) : (ms0_4 a t).IsWhole := hstage0_4 (((cfg0 a).slots t (4 : Fin 5)).cast nbuf0_4)

variable (V : (c : Dev nD) → (b : Ref sig .tc) → Buf (Elt F) ((c.tc : Thread nD τ).loc b))

/-- What the output's buffer is said to hold before anything is stored into it. -/
def junk4 : S512x2048.Idx → Elt F .f32 := VO0_4.read (Elt F) VO0_4.junk

/-- Window `w`'s block at point `t`, read off its array as the region finds it. -/
def iblk (c : Dev nD) (w : Fin (cfg0 a).W) (t : Fin (cfg0 a).N) : (((cfg0 a).win w).xblock (crd a t)).Idx → Elt F ((cfg0 a).win w).elt :=
  (((cfg0 a).win w).blk t).view.read (Elt F) (V c (Pipeline.arrRef spec0 w))

/-! ## What the outputs and scratches hold after each point -/

/-- One step of the trajectory: what the outputs' current buffers and the scratches hold after the body at point `t`
    (output 4), from what they held before (`prev`): the path the decisions select at `t`, its
    run's contents; an output the path leaves idle keeps what it held (`junk4`, named by nothing — where fresh). -/
def step0 (c : Dev nD) (t : Fin (cfg0 a).N) (prev : (S512x2048.Idx → Elt F .f32)) : (S512x2048.Idx → Elt F .f32) :=
  if q0 : P0_0 a t then
    if q1 : P0_1 a t then
      out0_A_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) q0 q1
    else
      out0_C_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) q0 q1
  else
    if q1 : P0_1 a t then
      out0_B_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) prev q0 q1
    else
      (if (cfg0 a).fresh (4 : Fin 5) t.val then junk4 else prev)

/-- The trajectory: after position `n`. -/
def traj0 (c : Dev nD) : (n : ℕ) → n < (cfg0 a).N → (S512x2048.Idx → Elt F .f32)
  | 0, h => step0 a V c ⟨0, h⟩ junk4
  | n + 1, h => step0 a V c ⟨n + 1, h⟩ (traj0 c n (Nat.lt_of_succ_lt h))

/-- What they held BEFORE point `t` (junk before the first). -/
def prev0 (c : Dev nD) (t : Fin (cfg0 a).N) : (S512x2048.Idx → Elt F .f32) :=
  if h : t.val = 0 then junk4 else traj0 a V c (t.val - 1) (by omega)

theorem traj0_eq (c : Dev nD) (t : Fin (cfg0 a).N) : traj0 a V c t.val t.isLt = step0 a V c t (prev0 a V c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfg0 a).N) (prev : (S512x2048.Idx → Elt F .f32)) (q0 : P0_0 a t) (q1 : P0_1 a t) :
    step0 a V c t prev = out0_A_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) q0 q1 := by
  unfold step0; simp only [dif_pos q0, dif_pos q1]

/-- `step0` at a point of path B. -/
theorem step0_B (c : Dev nD) (t : Fin (cfg0 a).N) (prev : (S512x2048.Idx → Elt F .f32)) (q0 : ¬P0_0 a t) (q1 : P0_1 a t) :
    step0 a V c t prev = out0_B_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) prev q0 q1 := by
  unfold step0; simp only [dif_neg q0, dif_pos q1]

/-- `step0` at a point of path C. -/
theorem step0_C (c : Dev nD) (t : Fin (cfg0 a).N) (prev : (S512x2048.Idx → Elt F .f32)) (q0 : P0_0 a t) (q1 : ¬P0_1 a t) :
    step0 a V c t prev = out0_C_4 c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) q0 q1 := by
  unfold step0; simp only [dif_pos q0, dif_neg q1]

/-- `step0` at a point of path D. -/
theorem step0_D (c : Dev nD) (t : Fin (cfg0 a).N) (prev : (S512x2048.Idx → Elt F .f32)) (q0 : ¬P0_0 a t) (q1 : ¬P0_1 a t) :
    step0 a V c t prev = (if (cfg0 a).fresh (4 : Fin 5) t.val then junk4 else prev) := by
  unfold step0; simp only [dif_neg q0, dif_neg q1]

/-! ## The pipeline's proof data -/

/-- The invariant before each point: the scoped buffers and generator registers the call does not use, and the body's halves of the tables. -/
def Phi (c : Dev nD) : sProp 𝕄 :=
  iprop(Pipeline.ΦA (Val := Elt F) (U := UR sig nD τ) spec0 c ∗ (tbM0_0.view.loc (c : Thread nD τ) ↦{fullShare.right} tab0 a) ∗ (tbM0_1.view.loc (c : Thread nD τ) ↦{fullShare.right} tab1 a))

/-- The proof data of the one pipeline on core `c`. -/
def dats (_ : Fin 1) (c : Dev nD) : Dat τ (Elt F) Unit ℕ (UR sig nD τ) ℕ (cfg0 a) c where
  A w := V c (Pipeline.arrRef spec0 w)
  after w t := match w with
    | ⟨0, _⟩ => iblk a V c (0 : Fin 5) t
    | ⟨1, _⟩ => iblk a V c (1 : Fin 5) t
    | ⟨2, _⟩ => iblk a V c (2 : Fin 5) t
    | ⟨3, _⟩ => iblk a V c (3 : Fin 5) t
    | ⟨4, _⟩ => (traj0 a V c t.val t.isLt)
  Φ t := Phi a c
  q _ := fullShare
  owed _ := 0

theorem after0_0 (c : Dev nD) (t : Fin (cfg0 a).N) : (dats a V 0 c).after (0 : Fin 5) t = iblk a V c (0 : Fin 5) t := rfl
theorem after0_1 (c : Dev nD) (t : Fin (cfg0 a).N) : (dats a V 0 c).after (1 : Fin 5) t = iblk a V c (1 : Fin 5) t := rfl
theorem after0_2 (c : Dev nD) (t : Fin (cfg0 a).N) : (dats a V 0 c).after (2 : Fin 5) t = iblk a V c (2 : Fin 5) t := rfl
theorem after0_3 (c : Dev nD) (t : Fin (cfg0 a).N) : (dats a V 0 c).after (3 : Fin 5) t = iblk a V c (3 : Fin 5) t := rfl
theorem after0_4 (c : Dev nD) (t : Fin (cfg0 a).N) : (dats a V 0 c).after (4 : Fin 5) t = (traj0 a V c t.val t.isLt) := rfl

/-! ## What each window's staging buffer holds when the body runs -/

/-- Input window 0 holds its block, fetched there or not (Lib/Pipeline/FrameBody.lean `Dat.before_in_eq_fetched`). -/
theorem before0_0 (c : Dev nD) (t : Fin (cfg0 a).N) (d) : (dats a V 0 c).before (0 : Fin 5) t d = iblk a V c (0 : Fin 5) t :=
  ((dats a V 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfg0 a).N) (d) : (dats a V 0 c).before (1 : Fin 5) t d = iblk a V c (1 : Fin 5) t :=
  ((dats a V 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfg0 a).N) (d) : (dats a V 0 c).before (2 : Fin 5) t d = iblk a V c (2 : Fin 5) t :=
  ((dats a V 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfg0 a).N) (d) : (dats a V 0 c).before (3 : Fin 5) t d = iblk a V c (3 : Fin 5) t :=
  ((dats a V 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfg0 a).N) (ht : t.val ≠ 0), (cfg0 a).idle (4 : Fin 5) ((cfg0 a).grid.coords t) = true → (cfg0 a).fresh (4 : Fin 5) t.val = false →
    (dats a V 0 c).after (4 : Fin 5) t = (dats a V 0 c).after (4 : Fin 5) ⟨t.val - 1, by omega⟩ := by
  intro t ht hi hf
  rw [after0_4, after0_4, traj0_eq]
  by_cases q0 : P0_0 a t
  · by_cases q1 : P0_1 a t
    · obtain ⟨i4, -, -⟩ := sched0_A a t q0 q1
      rw [i4] at hi; exact absurd hi (by decide)
    · obtain ⟨i4, -, -⟩ := sched0_C a t q0 q1
      rw [i4] at hi; exact absurd hi (by decide)
  · by_cases q1 : P0_1 a t
    · obtain ⟨i4, -⟩ := sched0_B a t q0 q1
      rw [i4] at hi; exact absurd hi (by decide)
    · rw [step0_D a V c t _ q0 q1]
      simp only [hf, Bool.false_eq_true, ↓reduceIte]
      unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfg0 a).N) (d) :
    (dats a V 0 c).before (4 : Fin 5) t d = if (cfg0 a).fresh (4 : Fin 5) t.val then d else (prev0 a V c t) := by
  rw [(dats a V 0 c).before_out_traj (4 : Fin 5) rfl (fun _ _ => rfl) (hcarry0_4 a V c) t.val t rfl d]
  by_cases hf : (cfg0 a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfg0 a).N) : Prog (TpuEff nD τ sig (Elt F) Λ₀ .tc) PUnit :=
  cc0_moe_ffn (crd a t) (Memref.whole main_arg1) (Memref.isWhole_whole _) (Memref.whole main_arg2) (Memref.isWhole_whole _) (ms0_0 a t) (hs0_0 a t) (ms0_1 a t) (hs0_1 a t) (ms0_2 a t) (hs0_2 a t) (ms0_3 a t) (hs0_3 a t) (ms0_4 a t) (hs0_4 a t)

set_option maxHeartbeats 4000000 in
/-- The body obligation at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfg0 a).N) :
    iprop((dats a V 0 c).Φ t.castSucc ∗ (dats a V 0 c).owesAt () t.castSucc
        ∗ (∃ d, owns (c : Thread nD τ) (ms0_0 a t) fullShare ((dats a V 0 c).before (0 : Fin 5) t d))
        ∗ (∃ d, owns (c : Thread nD τ) (ms0_1 a t) fullShare ((dats a V 0 c).before (1 : Fin 5) t d))
        ∗ (∃ d, owns (c : Thread nD τ) (ms0_2 a t) fullShare ((dats a V 0 c).before (2 : Fin 5) t d))
        ∗ (∃ d, owns (c : Thread nD τ) (ms0_3 a t) fullShare ((dats a V 0 c).before (3 : Fin 5) t d))
        ∗ (∃ d, owns (c : Thread nD τ) (ms0_4 a t) fullShare ((dats a V 0 c).before (4 : Fin 5) t d)))
      ⊢ wp frame (wpE (defs₀ (F := F)) Variants.none c none) Set.univ (bodyAt0 a t) fun _ =>
          iprop((dats a V 0 c).Φ t.succ ∗ (dats a V 0 c).owesAt () t.succ
            ∗ bigSep Finset.univ fun w : Fin (cfg0 a).W =>
                match (cfg0 a).idle w ((cfg0 a).grid.coords t) with
                | true =>
                  match ((cfg0 a).win w).flush t with
                  | false => iprop(∃ d, owns (c : Thread nD τ) (((cfg0 a).win w).stage ((cfg0 a).slots t w)) fullShare ((dats a V 0 c).before w t d))
                  | true => owns (c : Thread nD τ) (((cfg0 a).win w).stage ((cfg0 a).slots t w)) fullShare ((dats a V 0 c).after w t)
                | false => owns (c : Thread nD τ) (((cfg0 a).win w).stage ((cfg0 a).slots t w)) fullShare ((dats a V 0 c).after w t)) := by
  rw [bigSep_W0]
  by_cases q0 : P0_0 a t
  · by_cases q1 : P0_1 a t
    · obtain ⟨i4, f4, fr4⟩ := sched0_A a t q0 q1
      have k0_h1 := q0
      have k0_h2 := q1
      rewrite [i4]
      simp only [before0_0, before0_1, before0_2, before0_3, before0_4, after0_0, after0_1, after0_2, after0_3, after0_4, f4]
      simp only [fr4, Bool.false_eq_true, ↓reduceIte]
      rewrite [show (dats a V 0 c).Φ t.succ = Phi a c from rfl, show (dats a V 0 c).Φ t.castSucc = Phi a c from rfl,
        show (dats a V 0 c).owesAt () t.succ = (dats a V 0 c).owesAt () t.castSucc from rfl]
      try rewrite [traj0_eq, step0_A a V c t _ q0 q1]
      unfold Phi; simp only [traj0_eq, step0_A a V c t _ q0 q1, Fin.val_castSucc, Fin.val_succ]
      iintro ⟨⟨HS, HT0, HT1⟩, Ho, ⟨%d0, H0⟩, ⟨%d1, H1⟩, ⟨%d2, H2⟩, ⟨%d3, H3⟩, ⟨%d4, H4⟩⟩
      iapply ((kernelRun0_A c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HS HT0 HT1]
      · isplitl [HS]; · iexact HS
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4⟩ := sched0_C a t q0 q1
      have k0_h1 := q0
      have k0_h2 := q1
      rewrite [i4]
      simp only [before0_0, before0_1, before0_2, before0_3, before0_4, after0_0, after0_1, after0_2, after0_3, after0_4, f4]
      simp only [fr4, Bool.false_eq_true, ↓reduceIte]
      rewrite [show (dats a V 0 c).Φ t.succ = Phi a c from rfl, show (dats a V 0 c).Φ t.castSucc = Phi a c from rfl,
        show (dats a V 0 c).owesAt () t.succ = (dats a V 0 c).owesAt () t.castSucc from rfl]
      try rewrite [traj0_eq, step0_C a V c t _ q0 q1]
      unfold Phi; simp only [traj0_eq, step0_C a V c t _ q0 q1, Fin.val_castSucc, Fin.val_succ]
      iintro ⟨⟨HS, HT0, HT1⟩, Ho, ⟨%d0, H0⟩, ⟨%d1, H1⟩, ⟨%d2, H2⟩, ⟨%d3, H3⟩, ⟨%d4, H4⟩⟩
      iapply ((kernelRun0_C c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HS HT0 HT1]
      · isplitl [HS]; · iexact HS
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 a t
    · obtain ⟨i4, fr4⟩ := sched0_B a t q0 q1
      have k0_h1 := q0
      have k0_h2 := q1
      rewrite [i4]
      simp only [before0_0, before0_1, before0_2, before0_3, before0_4, after0_0, after0_1, after0_2, after0_3, after0_4]
      simp only [fr4, Bool.false_eq_true, ↓reduceIte]
      rewrite [show (dats a V 0 c).Φ t.succ = Phi a c from rfl, show (dats a V 0 c).Φ t.castSucc = Phi a c from rfl,
        show (dats a V 0 c).owesAt () t.succ = (dats a V 0 c).owesAt () t.castSucc from rfl]
      try rewrite [traj0_eq, step0_B a V c t _ q0 q1]
      unfold Phi; simp only [traj0_eq, step0_B a V c t _ q0 q1, Fin.val_castSucc, Fin.val_succ]
      iintro ⟨⟨HS, HT0, HT1⟩, Ho, ⟨%d0, H0⟩, ⟨%d1, H1⟩, ⟨%d2, H2⟩, ⟨%d3, H3⟩, ⟨%d4, H4⟩⟩
      iapply ((kernelRun0_B c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) _ k0_h1 k0_h2).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HS HT0 HT1]
      · isplitl [HS]; · iexact HS
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _)
    · obtain ⟨i4, fr4⟩ := sched0_D a t q0 q1
      have k0_h1 := q0
      have k0_h2 := q1
      cases f4 : ((cfg0 a).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats a V 0 c).Φ t.succ = Phi a c from rfl, show (dats a V 0 c).Φ t.castSucc = Phi a c from rfl,
          show (dats a V 0 c).owesAt () t.succ = (dats a V 0 c).owesAt () t.castSucc from rfl]
        try rewrite [traj0_eq, step0_D a V c t _ q0 q1]
        unfold Phi; simp only [traj0_eq, step0_D a V c t _ q0 q1, Fin.val_castSucc, Fin.val_succ]
        iintro ⟨⟨HS, HT0, HT1⟩, Ho, ⟨%d0, H0⟩, ⟨%d1, H1⟩, ⟨%d2, H2⟩, ⟨%d3, H3⟩, ⟨%d4, H4⟩⟩
        iapply ((kernelRun0_D c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HS HT0 HT1]
        · isplitl [HS]; · iexact HS
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats a V 0 c).Φ t.succ = Phi a c from rfl, show (dats a V 0 c).Φ t.castSucc = Phi a c from rfl,
          show (dats a V 0 c).owesAt () t.succ = (dats a V 0 c).owesAt () t.castSucc from rfl]
        try rewrite [traj0_eq, step0_D a V c t _ q0 q1]
        unfold Phi; simp only [traj0_eq, step0_D a V c t _ q0 q1, Fin.val_castSucc, Fin.val_succ, fr4, Bool.false_eq_true, ↓reduceIte]
        iintro ⟨⟨HS, HT0, HT1⟩, Ho, ⟨%d0, H0⟩, ⟨%d1, H1⟩, ⟨%d2, H2⟩, ⟨%d3, H3⟩, ⟨%d4, H4⟩⟩
        iapply ((kernelRun0_D c (crd a t) (ms0_0 a t) (hs0_0 a t) (ms0_1 a t) (hs0_1 a t) (ms0_2 a t) (hs0_2 a t) (ms0_3 a t) (hs0_3 a t) (ms0_4 a t) (hs0_4 a t) (tab0 a) (tab1 a) (iblk a V c (0 : Fin 5) t) (iblk a V c (1 : Fin 5) t) (iblk a V c (2 : Fin 5) t) (iblk a V c (3 : Fin 5) t) k0_h1 k0_h2).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HS HT0 HT1]
        · isplitl [HS]; · iexact HS
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (c : Dev nD) : BodyObligation (dats a V 0 c) (defs₀ (F := F)) Variants.none () Set.univ := fun t => by
  rw [bigSep_W0]
  exact sound_body a V c t

/-! ## The launch -/

theorem share_eq (c : Dev nD) (w : Fin (cfg0 a).W) : (dats a V 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem Phi_eq (c : Dev nD) (t) : (dats a V 0 c).Φ t = iprop(Pipeline.ΦA (Val := Elt F) (U := UR sig nD τ) spec0 c ∗ Pipeline.ΦT (U := UR sig nD τ) pre0 a.1 c) := by
  show Phi a c = _
  unfold Phi Pipeline.ΦT
  rw [prefHeld_eq]

theorem hostOps0_fresh : (hostOps0 (F := F)).Forall fun op => op.fresh = ∅ := by
  simp only [List.Forall]; repeat' constructor

/-- What each buffer holds when the region is entered: the operations before it run. -/
def VM (m : (ℓ : Loc nD τ sig) → Buf (Elt F) ℓ) (c : Dev nD) (b : Ref sig .tc) : Buf (Elt F) ((c.tc : Thread nD τ).loc b) :=
  StableHlo.after hostOps0 (fun b => m (c, b)) b

theorem hmain (m : (ℓ : Loc nD τ sig) → Buf (Elt F) ℓ) : Pipeline.HMainP (Ix := Unit) (Name := ℕ) (U := UR sig nD τ) (Lvl := ℕ) pcfgs 0 defs₀ Variants.none m (main (F := F)) (VM m) :=
  Pipeline.hmainP_prefix pcfgs 0 defs₀ Variants.none m main hostOps0 hostOps0_sub hostOps0_fresh main_chain

theorem VM_0 (m : (ℓ : Loc nD τ sig) → Buf (Elt F) ℓ) (c : Dev nD) : VM m c main_arg0 = m ((c.tc : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

theorem VM_1 (m : (ℓ : Loc nD τ sig) → Buf (Elt F) ℓ) (c : Dev nD) : VM m c main_arg1 = m ((c.tc : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

theorem VM_2 (m : (ℓ : Loc nD τ sig) → Buf (Elt F) ℓ) (c : Dev nD) : VM m c main_arg2 = m ((c.tc : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

theorem VM_3 (m : (ℓ : Loc nD τ sig) → Buf (Elt F) ℓ) (c : Dev nD) : VM m c main_arg3 = m ((c.tc : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

theorem VM_4 (m : (ℓ : Loc nD τ sig) → Buf (Elt F) ℓ) (c : Dev nD) : VM m c main_arg4 = m ((c.tc : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))

theorem VM_5 (m : (ℓ : Loc nD τ sig) → Buf (Elt F) ℓ) (c : Dev nD) : VM m c main_arg5 = m ((c.tc : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))

/-- The tables as launched. -/
def tbl (m : (ℓ : Loc nD τ sig) → Buf (Elt F) ℓ) : pre0.Contents (Elt F) := fun k => VM m 0 (pre0.ref k)

set_option backward.isDefEq.respectTransparency.types false in
/-- The run: from any memory whose tables keep the windows inside their arrays, the program terminates, its counters zero, every
    windowed array at its blocks as written back and every other buffer as the region found it. -/
theorem run (m : (ℓ : Loc nD τ sig) → Buf (Elt F) ℓ) (g : Dev nD → PrngReg) (hok : ok0 (tbl m)) :
    θ_run defs (onTc (main (F := F))) ⟨m, fun _ => 0, g⟩ (fun r => (∀ c : Dev nD,
      (∀ w : Fin 5, r.2.mem ((spec0 w).arr.view.loc (c.tc : Thread nD τ)) = (dats (⟨tbl m, hok⟩ : (pcfg0 (F := F)).Adm) (VM m) 0 c).arrAt w (cfg0 (⟨tbl m, hok⟩ : (pcfg0 (F := F)).Adm)).N)
      ∧ ∀ b ∈ Pipeline.restRefs sig spec0, r.2.mem ((c.tc : Thread nD τ).loc b) = VM m c b) ∧ r.2.sem = fun _ => 0) :=
  Pipeline.θ_run_frameP pcfgs (fun _ => ⟨tbl m, hok⟩) (dats ⟨tbl m, hok⟩ (VM m)) 0 launch0 defs₀ Variants.none m g main
    (fun c => (body_obligation ⟨tbl m, hok⟩ (VM m) c).loose) (fun c w => share_eq ⟨tbl m, hok⟩ (VM m) c w) (fun _ _ => rfl) (VM m) (hmain m)
    (fun _ _ => rfl) (fun c k => by obtain rfl : c = 0 := Subsingleton.elim _ _; rfl) (fun c t => Phi_eq ⟨tbl m, hok⟩ (VM m) c t) (Q' := _) (fun _ h => h)

/-- The same, read at the results: the output's array, and the six arguments as launched. -/
theorem run_main (m : (ℓ : Loc nD τ sig) → Buf (Elt F) ℓ) (g : Dev nD → PrngReg) (hok : ok0 (tbl m)) :
    θ_run defs (onTc (main (F := F))) ⟨m, fun _ => 0, g⟩ (fun r => (∀ c : Dev nD,
      r.2.mem ((c.tc : Thread nD τ).loc main_v3) = (dats (⟨tbl m, hok⟩ : (pcfg0 (F := F)).Adm) (VM m) 0 c).arrAt (4 : Fin 5) (cfg0 (⟨tbl m, hok⟩ : (pcfg0 (F := F)).Adm)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h.1 c).1 (4 : Fin 5),
      ((h.1 c).1 (0 : Fin 5)).trans (((dats (⟨tbl m, hok⟩ : (pcfg0 (F := F)).Adm) (VM m) 0 c).arrAt_in (0 : Fin 5) rfl _).trans (VM_0 m c)),
      ((h.1 c).2 main_arg1 (Pipeline.mem_restRefs_of main_arg1 (by decide) (by decide))).trans (VM_1 m c),
      ((h.1 c).2 main_arg2 (Pipeline.mem_restRefs_of main_arg2 (by decide) (by decide))).trans (VM_2 m c),
      ((h.1 c).2 main_arg3 (Pipeline.mem_restRefs_of main_arg3 (by decide) (by decide))).trans (VM_3 m c),
      ((h.1 c).2 main_arg4 (Pipeline.mem_restRefs_of main_arg4 (by decide) (by decide))).trans (VM_4 m c),
      ((h.1 c).2 main_arg5 (Pipeline.mem_restRefs_of main_arg5 (by decide) (by decide))).trans (VM_5 m c)⟩, h.2⟩) (run m g hok)

end Cert.Kernel2Ideal.Moe

end
-- ==== Proof.MoeMath.lean ====
/- One expert's share of a row: the gated hidden layer and its way back, over the extended reals. -/
module

public import proofs.«01_k».proof.Proof.Soft

@[expose] public section
noncomputable section
namespace Cert.Experts
open Idealize.ShloMosaic

/-- The logistic function. -/
def sg (x : EReal) : EReal := Ideal.div 1 (1 + Ideal.exp (-x))

/-- One hidden unit of an expert at a row: the gate, times its logistic, times the unit's value. -/
def hid (x wg wu : Fin 2048 → EReal) : EReal := (∑ k, x k * wg k) * sg (∑ k, x k * wg k) * ∑ k, x k * wu k

/-- One entry of an expert's output at a row: the hidden units, weighted. -/
def expert (x : Fin 2048 → EReal) (wg wu : Fin 2048 → Fin 4096 → EReal) (wd : Fin 4096 → EReal) : EReal :=
  ∑ j, hid x (fun k => wg k j) (fun k => wu k j) * wd j

/-- A tile's expert, by the table of experts. -/
def te (T : Fin 72 → BitVec 32) (k : Fin 72) : Fin 8 := ⟨(T k).toNat % 8, Nat.mod_lt _ (by decide)⟩

/-- The experts' layer over dispatched rows: a row of a tile below the count goes through its tile's expert, the other rows are zero. -/
def moe (X : Fin 36864 → Fin 2048 → EReal) (T : Fin 72 → BitVec 32) (N : BitVec 32) (WG WU : Fin 8 → Fin 2048 → Fin 4096 → EReal)
    (WD : Fin 8 → Fin 4096 → Fin 2048 → EReal) (r : Fin 36864) (d : Fin 2048) : EReal :=
  if (BitVec.ofNat 32 (r.val / 512)).slt N = true then
    expert (X r) (WG (te T ⟨r.val / 512, by omega⟩)) (WU (te T ⟨r.val / 512, by omega⟩)) (fun j => WD (te T ⟨r.val / 512, by omega⟩) j d)
  else 0

/-- A sum of eight masked terms, one mask one and the others zero, is that term. -/
theorem pick (E M : Fin 8 → EReal) (e : Fin 8) (h : ∀ i, M i = if i = e then 1 else 0) :
    0 + M 0 * E 0 + M 1 * E 1 + M 2 * E 2 + M 3 * E 3 + M 4 * E 4 + M 5 * E 5 + M 6 * E 6 + M 7 * E 7 = E e := by
  simp only [h]
  fin_cases e <;> simp

/-- With every mask zero the sum is zero. -/
theorem pick_none (E M : Fin 8 → EReal) (h : ∀ i, M i = 0) :
    0 + M 0 * E 0 + M 1 * E 1 + M 2 * E 2 + M 3 * E 3 + M 4 * E 4 + M 5 * E 5 + M 6 * E 6 + M 7 * E 7 = 0 := by
  simp only [h, zero_mul, add_zero]

/-- A sum over 4096 hidden units is the sum of four blocks of 1024, added in turn. -/
theorem sum_blocks (f : Fin 4096 → EReal) : ∑ j, f j = 0 + (∑ j : Fin 1024, f ⟨0 * 1024 + j.val, by omega⟩) + (∑ j : Fin 1024, f ⟨1 * 1024 + j.val, by omega⟩)
    + (∑ j : Fin 1024, f ⟨2 * 1024 + j.val, by omega⟩) + (∑ j : Fin 1024, f ⟨3 * 1024 + j.val, by omega⟩) := by
  rw [← Equiv.sum_comp (finProdFinEquiv (m := 4) (n := 1024)) f, Fintype.sum_prod_type, Fin.sum_univ_four, zero_add]
  refine congrArg₂ (· + ·) (congrArg₂ (· + ·) (congrArg₂ (· + ·) ?_ ?_) ?_) ?_ <;>
    refine Finset.sum_congr rfl fun j _ => congrArg f (Fin.ext ?_) <;> simp only [finProdFinEquiv_apply_val] <;> (try dsimp only) <;> (try simp) <;> (try omega)

/-- Subtracting from zero negates. -/
theorem zsub (x : EReal) : 0 - x = -x := by rw [sub_eq_add_neg, zero_add]

end Cert.Experts
-- ==== Proof.MoeBlock.lean ====
/- What the experts' call leaves in its output block, point by point, entry by entry. -/
module

public import proofs.«01_k».proof.Proof.MoeFrame
public import proofs.«01_k».proof.Proof.MoeMath
public import proofs.«01_k».proof.Proof.Soft

@[expose] public section
set_option maxRecDepth 16384
noncomputable section
namespace Cert.Kernel2Ideal.Moe
open Cert.Kernel2Ideal Cert.Kernel2Ideal.Gen Idealize.ShloMosaic Idealize.ShloMosaic.TcCoe Idealize.SL.Sem
open Idealize.ShloMosaic.Pipeline (Dat)
open Cert.Experts

/-- The stored zero block. -/
theorem pay1_apply (r : Fin 512) (d : Fin 2048) : @Eq EReal (k0_pay1 (F := Ideal) (ix2 r d)) 0 := by
  pointwise [k0_pay1]

/-- The stored running block: what it held, plus 1024 hidden units' share. -/
theorem pay2_apply (v7 : Vec Ideal S512x2048 .f32) (v9 : Vec Ideal S512x2048 .bf16) (v10 v12 : Vec Ideal S1x2048x1024 .bf16) (v14 : Vec Ideal S1x1024x2048 .bf16)
    (r : Fin 512) (d : Fin 2048) : @Eq EReal (k0_pay2 v7 v9 v10 v12 v14 (ix2 r d))
      (@HAdd.hAdd EReal EReal EReal _ (v7 (ix2 r d)) (∑ j : Fin 1024, hid (fun k => v9 (ix2 r k)) (fun k => v10 (ix3 0 k j)) (fun k => v12 (ix3 0 k j)) * (v14 (ix3 0 j d) : EReal))) := by
  unfold hid sg
  simp only [← zsub]
  pointwise [k0_pay2]

section
variable (c : Dev nD) (i : grid0.Coords) (arg4 : Memref sig .tc .vmem S512x2048 .bf16) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S512x2048 .f32) (harg8 : arg8.IsWhole) (T0 : S72.Idx → Elt Ideal .i32) (T1 : S1.Idx → Elt Ideal .i32)
  (x0 : S512x2048.Idx → Elt Ideal .bf16) (x1 x2 : S1x2048x1024.Idx → Elt Ideal .bf16) (x3 : S1x1024x2048.Idx → Elt Ideal .bf16) (xo : S512x2048.Idx → Elt Ideal .f32)

/-- A live tile's first hidden block. -/
theorem outA (h1) (h2) : out0_A_4 c i arg4 harg4 arg5 harg5 arg6 harg6 arg7 harg7 arg8 harg8 T0 T1 x0 x1 x2 x3 h1 h2 = k0_pay2 k0_pay1 x0 x1 x2 x3 := by
  unfold out0_A_4
  frame_out
  simp only [View.read_rep]
/-- A live tile's later hidden blocks. -/
theorem outB (h1) (h2) : out0_B_4 c i arg4 harg4 arg5 harg5 arg6 harg6 arg7 harg7 arg8 harg8 T0 T1 x0 x1 x2 x3 xo h1 h2 = k0_pay2 xo x0 x1 x2 x3 := by
  unfold out0_B_4
  frame_out
  simp only [View.read_rep]
/-- An idle tile's first hidden block. -/
theorem outC (h1) (h2) : out0_C_4 c i arg4 harg4 arg5 harg5 arg6 harg6 arg7 harg7 arg8 harg8 T0 T1 x0 x1 x2 x3 h1 h2 = k0_pay1 (F := Ideal) := by
  unfold out0_C_4
  frame_out
end

/-- A point's coordinates: the tile, and the hidden block. -/
theorem coords_val : ∀ t : Fin grid0.N, (grid0.coords t 0).val = t.val / 4 ∧ (grid0.coords t 1).val = t.val % 4 := by decide +kernel

theorem nPts : grid0.N = 288 := by decide +kernel

/-- The body's test of a tile is the comparison of its number with the word. -/
theorem cond2_iff (i : grid0.Coords) (w : BitVec 32) : k0_cond2 i w = 1#1 ↔ (BitVec.ofNat 32 (i 0).val).slt w = true := by
  unfold k0_cond2
  simp only [Scalar.cmpi, IntOp.cmpi, Scalar.extui]
  cases (BitVec.slt _ _) <;> decide

variable (a : (pcfg0 (F := Ideal)).Adm)

/-- The word the body loads is the second table's entry. -/
theorem word0 : View.readAt (Elt Ideal) (tbM0_1).view (Rect.unit (s := S1) ![0] S1.size inb_S1_S1_0).toLoadRect (tab1 a) (Shape.Idx.first (numel1_S1.symm ▸ Nat.one_pos)) = tab1 a (ix1 0) := by
  refine congrArg (a.1 1) ?_
  funext x
  exact match x with
  | ⟨0, _⟩ => @Subsingleton.elim (Fin 1) _ _ _

/-- Tile `k` is live: its number is below the count. -/
def live (k : ℕ) : Prop := (BitVec.ofNat 32 k).slt (tab1 a (ix1 0)) = true

instance (k : ℕ) : Decidable (live a k) := inferInstanceAs (Decidable (_ = true))

theorem live_iff (t : Fin (cfg0 a).N) : P0_1 a t ↔ live a (t.val / 4) := by
  refine (cond2_iff (crd a t) _).trans ?_
  rw [word0 a]
  unfold live
  rw [← (coords_val t).1]

variable (V : (c : Dev nD) → (b : Ref sig .tc) → Buf (Elt Ideal) ((c.tc : Thread nD τ).loc b)) (c : Dev nD)

/-- What a live point adds to an entry. -/
def add (t : Fin (cfg0 a).N) (r : Fin 512) (d : Fin 2048) : EReal :=
  ∑ j : Fin 1024, @HMul.hMul EReal EReal EReal _ (hid (fun k => iblk a V c 0 t (ix2 r k)) (fun k => iblk a V c 1 t (ix3 0 k j)) (fun k => iblk a V c 2 t (ix3 0 k j))) (iblk a V c 3 t (ix3 0 j d))

theorem traj_A (t : Fin (cfg0 a).N) (h : t.val % 4 = 0) (hl : live a (t.val / 4)) (r : Fin 512) (d : Fin 2048) :
    @Eq EReal (traj0 a V c t.val t.isLt (ix2 r d)) (0 + add a V c t r d) := by
  rw [traj0_eq, step0_A a V c t _ ((cond1_iff t).2 h) ((live_iff a t).2 hl), outA]
  refine (pay2_apply _ _ _ _ _ r d).trans ?_
  exact congrArg₂ (· + ·) (pay1_apply r d) rfl

theorem traj_B (t : Fin (cfg0 a).N) (h : t.val % 4 ≠ 0) (hl : live a (t.val / 4)) (r : Fin 512) (d : Fin 2048) :
    @Eq EReal (traj0 a V c t.val t.isLt (ix2 r d)) (@HAdd.hAdd EReal EReal EReal _ (traj0 a V c (t.val - 1) (by omega) (ix2 r d)) (add a V c t r d)) := by
  rw [traj0_eq, step0_B a V c t _ (fun q => h ((cond1_iff t).1 q)) ((live_iff a t).2 hl), outB]
  refine (pay2_apply _ _ _ _ _ r d).trans ?_
  unfold prev0
  rw [dif_neg (show ¬ t.val = 0 by omega)]
  rfl

theorem traj_C (t : Fin (cfg0 a).N) (h : t.val % 4 = 0) (hl : ¬ live a (t.val / 4)) (r : Fin 512) (d : Fin 2048) :
    @Eq EReal (traj0 a V c t.val t.isLt (ix2 r d)) 0 := by
  rw [traj0_eq, step0_C a V c t _ ((cond1_iff t).2 h) (fun q => hl ((live_iff a t).1 q)), outC]
  exact pay1_apply r d

theorem traj_D (t : Fin (cfg0 a).N) (h : t.val % 4 ≠ 0) (hl : ¬ live a (t.val / 4)) :
    traj0 a V c t.val t.isLt = traj0 a V c (t.val - 1) (by omega) := by
  rw [traj0_eq, step0_D a V c t _ (fun q => h ((cond1_iff t).1 q)) (fun q => hl ((live_iff a t).1 q)), fresh4]
  unfold prev0
  rw [dif_neg (show ¬ t.val = 0 by omega), if_neg (by simp only [decide_eq_true_eq]; exact h)]

/-- Point `f` of tile `k`. -/
abbrev pt (k : Fin 72) (f : Fin 4) : Fin (cfg0 a).N := ⟨4 * k.val + f.val, by rw [show (cfg0 a).N = 288 from nPts]; omega⟩

/-- A live tile's last block: the four hidden blocks' shares, added in turn. -/
theorem traj_live (k : Fin 72) (hl : live a k.val) (r : Fin 512) (d : Fin 2048) :
    @Eq EReal (traj0 a V c (pt a k 3).val (pt a k 3).isLt (ix2 r d))
      (0 + add a V c (pt a k 0) r d + add a V c (pt a k 1) r d + add a V c (pt a k 2) r d + add a V c (pt a k 3) r d) := by
  have e : ∀ f : Fin 4, live a ((pt a k f).val / 4) := fun f => by
    have : (4 * k.val + f.val) / 4 = k.val := by omega
    show live a ((4 * k.val + f.val) / 4)
    rw [this]; exact hl
  refine (traj_B a V c (pt a k 3) (by simp) (e 3) r d).trans (congrArg (· + add a V c (pt a k 3) r d) ?_)
  refine (traj_B a V c (pt a k 2) (by simp) (e 2) r d).trans (congrArg (· + add a V c (pt a k 2) r d) ?_)
  refine (traj_B a V c (pt a k 1) (by simp) (e 1) r d).trans (congrArg (· + add a V c (pt a k 1) r d) ?_)
  exact traj_A a V c (pt a k 0) (by simp) (e 0) r d

/-- An idle tile's last block is zero. -/
theorem traj_dead (k : Fin 72) (hl : ¬ live a k.val) (r : Fin 512) (d : Fin 2048) :
    @Eq EReal (traj0 a V c (pt a k 3).val (pt a k 3).isLt (ix2 r d)) 0 := by
  have e : ∀ f : Fin 4, ¬ live a ((pt a k f).val / 4) := fun f => by
    have : (4 * k.val + f.val) / 4 = k.val := by omega
    show ¬ live a ((4 * k.val + f.val) / 4)
    rw [this]; exact hl
  refine (congrFun (traj_D a V c (pt a k 3) (by simp) (e 3)) _).trans ?_
  refine (congrFun (traj_D a V c (pt a k 2) (by simp) (e 2)) _).trans ?_
  refine (congrFun (traj_D a V c (pt a k 1) (by simp) (e 1)) _).trans ?_
  exact traj_C a V c (pt a k 0) (by simp) (e 0) r d

end Cert.Kernel2Ideal.Moe
-- ==== Proof.MoeArray.lean ====
/- The experts' array after the run, from the blocks its points leave. -/
module

public import proofs.«01_k».proof.Proof.MoeBlock
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel2Ideal.Moe
open Cert.Kernel2Ideal Cert.Kernel2Ideal.Gen Idealize.ShloMosaic Idealize.ShloMosaic.TcCoe Idealize.SL.Sem
open Idealize.ShloMosaic.Pipeline (Dat)
open Cert.Experts

section
variable {F : FTy → Type} [FloatOps F] (pf : pre0.Contents (Elt F)) (i : grid0.Coords)

/-- A tile's number, as the index maps read it. -/
theorem ofTile : ∀ n : Fin 72, (Scalar.indexCast (BitVec.ofNat 32 n.val)).toNat = n.val := by decide +kernel

/-- The first table's entry an index map reads is the tile's. -/
theorem at_0 : pf.at 0 (Rect.unit (s := S72) (k0_off1 i) S1.size (k0_off1_inb i)) numel1_S1 = pf 0 (ix1 (i 0)) := by
  refine congrArg (pf 0) ?_
  funext x
  exact match x with
  | ⟨0, _⟩ => Fin.ext (by
      show (Scalar.indexCast (BitVec.ofNat 32 (i 0).val)).toNat + 1 * 0 = (i 0).val
      exact ofTile (i 0))

/-- The second table's entry an index map reads is its only one. -/
theorem at_1 : pf.at 1 (Rect.unit (s := S1) ![0] S1.size inb_S1_S1_0) numel1_S1 = pf 1 (ix1 0) := by
  refine congrArg (pf 1) ?_
  funext x
  exact match x with
  | ⟨0, _⟩ => @Subsingleton.elim (Fin 1) _ _ _

/-- The hidden block an index map names: the point's for a live tile, the last for an idle one. -/
def hb : BitVec 32 := Scalar.select (Scalar.cmpi .slt (BitVec.ofNat 32 (i 0).val) (pf 1 (ix1 0) : BitVec 32)) (BitVec.ofNat 32 (i 1).val) 3#32

theorem tr1 : cc0_transform_1 k0_off1_inb numel1_S1 inb_S1_S1_0 pf i = ![(pf 0 (ix1 (i 0)) : BitVec 32).toNat, 0, (hb pf i).toNat] := by
  unfold hb
  rw [← at_0 pf i, ← at_1 pf]
  rfl
theorem tr2 : cc0_transform_2 k0_off1_inb numel1_S1 inb_S1_S1_0 pf i = ![(pf 0 (ix1 (i 0)) : BitVec 32).toNat, 0, (hb pf i).toNat] := by
  unfold hb
  rw [← at_0 pf i, ← at_1 pf]
  rfl
theorem tr3 : cc0_transform_3 k0_off1_inb numel1_S1 inb_S1_S1_0 pf i = ![(pf 0 (ix1 (i 0)) : BitVec 32).toNat, (hb pf i).toNat, 0] := by
  unfold hb
  rw [← at_0 pf i, ← at_1 pf]
  rfl

/-- For a live tile it is the point's hidden block. -/
theorem hb_live (h : (BitVec.ofNat 32 (i 0).val).slt (pf 1 (ix1 0) : BitVec 32) = true) : (hb pf i).toNat = (i 1).val := by
  unfold hb
  simp only [Scalar.cmpi, IntOp.cmpi, h, Scalar.select]
  have := (i 1).isLt
  have h4 : (i 1).val < 4 := this
  simp
  omega

/-- It is always one of the four. -/
theorem hb_lt : (hb pf i).toNat < 4 := by
  by_cases h : (BitVec.ofNat 32 (i 0).val).slt (pf 1 (ix1 0) : BitVec 32) = true
  · rw [hb_live pf i h]; exact (i 1).isLt
  · unfold hb
    simp only [Scalar.cmpi, IntOp.cmpi, Bool.not_eq_true _ ▸ h, Scalar.select]
    rw [if_neg (by decide)]
    decide

/-- Experts below eight keep every block of the weights inside its array. -/
theorem ok_of (h : ∀ k : Fin 72, (pf 0 (ix1 k) : BitVec 32).toNat < 8) : ok0 pf := by
  have hi : ∀ i : grid0.Coords, (pf 0 (ix1 (i 0)) : BitVec 32).toNat < 8 := fun i => h (i 0)
  refine ⟨fun i => ⟨fun a => ?_, .inr (Affine.block_words_dvd (s := S8x2048x4096) (p := EltTy.packing .bf16) (by decide) (by decide))⟩,
    fun i => ⟨fun a => ?_, .inr (Affine.block_words_dvd (s := S8x2048x4096) (p := EltTy.packing .bf16) (by decide) (by decide))⟩,
    fun i => ⟨fun a => ?_, .inr (Affine.block_words_dvd (s := S8x4096x2048) (p := EltTy.packing .bf16) (by decide) (by decide))⟩⟩
  · rw [tr1]
    have h1 := hi i; have h2 := hb_lt pf i
    exact match a with
    | 0 => by show ((pf 0 (ix1 (i 0)) : BitVec 32).toNat + 1) * 1 ≤ 8; omega
    | 1 => by show (0 + 1) * 2048 ≤ 2048; omega
    | 2 => by show ((hb pf i).toNat + 1) * 1024 ≤ 4096; omega
  · rw [tr2]
    have h1 := hi i; have h2 := hb_lt pf i
    exact match a with
    | 0 => by show ((pf 0 (ix1 (i 0)) : BitVec 32).toNat + 1) * 1 ≤ 8; omega
    | 1 => by show (0 + 1) * 2048 ≤ 2048; omega
    | 2 => by show ((hb pf i).toNat + 1) * 1024 ≤ 4096; omega
  · rw [tr3]
    have h1 := hi i; have h2 := hb_lt pf i
    exact match a with
    | 0 => by show ((pf 0 (ix1 (i 0)) : BitVec 32).toNat + 1) * 1 ≤ 8; omega
    | 1 => by show ((hb pf i).toNat + 1) * 1024 ≤ 4096; omega
    | 2 => by show (0 + 1) * 2048 ≤ 2048; omega
end

/-- The rows' and the output's blocks are the tiles'. -/
theorem tr04 : ∀ t : Fin grid0.N, cc0_transform_0 (grid0.coords t) = ![t.val / 4, 0] ∧ cc0_transform_4 (grid0.coords t) = ![t.val / 4, 0] := by decide +kernel

variable (a : (pcfg0 (F := Ideal)).Adm) (V : (c : Dev nD) → (b : Ref sig .tc) → Buf (Elt Ideal) ((c.tc : Thread nD τ).loc b)) (c : Dev nD)

theorem pts (t : Fin (cfg0 a).N) : t.val < 288 := lt_of_lt_of_eq t.isLt nPts

/-- The rows' block at a point. -/
theorem blk0 (t : Fin (cfg0 a).N) (r : Fin 512) (k : Fin 2048) :
    @Eq EReal (iblk a V c 0 t (ix2 r k)) (V c main_arg0 (ix2 ⟨t.val / 4 * 512 + r.val, by have := pts a t; omega⟩ k)) := by
  unfold iblk
  refine congrArg (V c main_arg0) ?_
  refine funext fun (x : Fin 2) => ?_
  exact match x with
  | 0 => Fin.ext (by
      show cc0_transform_0 (grid0.coords t) 0 * 512 + 1 * r.val = t.val / 4 * 512 + r.val
      rw [(tr04 t).1]; show t.val / 4 * 512 + 1 * r.val = _; omega)
  | 1 => Fin.ext (by
      show cc0_transform_0 (grid0.coords t) 1 * 2048 + 1 * k.val = k.val
      rw [(tr04 t).1]; show 0 * 2048 + 1 * k.val = _; omega)

/-- A tile's expert, as a word of the first table. -/
abbrev ex (k : Fin 72) : ℕ := (tab0 a (ix1 k) : BitVec 32).toNat

/-- The table's entry at a point's first coordinate is its tile's. -/
theorem ex_crd (t : Fin (cfg0 a).N) : (tab0 a (ix1 (crd a t 0)) : BitVec 32).toNat = ex a ⟨t.val / 4, by have := pts a t; omega⟩ := by
  unfold ex
  have hd : t.val / 4 < 72 := by have := pts a t; omega
  have h : (crd a t 0 : Fin 72) = ⟨t.val / 4, hd⟩ := Fin.ext (coords_val t).1
  exact congrArg (fun k : Fin 72 => (tab0 a (ix1 k) : BitVec 32).toNat) h

theorem hb_pt (t : Fin (cfg0 a).N) (hl : live a (t.val / 4)) : (hb a.1 (crd a t)).toNat = t.val % 4 := by
  refine (hb_live a.1 (crd a t) ?_).trans (coords_val t).2
  rw [(coords_val t).1]
  exact hl

/-- A live tile's block of weights 1. -/
theorem blk1 (t : Fin (cfg0 a).N) (hl : live a (t.val / 4)) (he : ex a ⟨t.val / 4, by have := pts a t; omega⟩ < 8) (k : Fin 2048) (j : Fin 1024) :
    @Eq EReal (iblk a V c 1 t (ix3 0 k j)) (V c main_v0 (ix3 ⟨ex a ⟨t.val / 4, by have := pts a t; omega⟩, he⟩ k ⟨t.val % 4 * 1024 + j.val, by omega⟩)) := by
  unfold iblk
  refine congrArg (V c main_v0) ?_
  refine funext fun (x : Fin 3) => ?_
  exact match x with
  | 0 => Fin.ext (by
      show cc0_transform_1 k0_off1_inb numel1_S1 inb_S1_S1_0 a.1 (crd a t) 0 * 1 + 1 * 0 = ex a ⟨t.val / 4, by have := pts a t; omega⟩
      rw [tr1]; show (tab0 a (ix1 (crd a t 0)) : BitVec 32).toNat * 1 + 1 * 0 = _; rw [ex_crd]; omega)
  | 1 => Fin.ext (by
      show cc0_transform_1 k0_off1_inb numel1_S1 inb_S1_S1_0 a.1 (crd a t) 1 * 2048 + 1 * k.val = k.val
      rw [tr1]; show 0 * 2048 + 1 * k.val = _; omega)
  | 2 => Fin.ext (by
      show cc0_transform_1 k0_off1_inb numel1_S1 inb_S1_S1_0 a.1 (crd a t) 2 * 1024 + 1 * j.val = t.val % 4 * 1024 + j.val
      rw [tr1]; show (hb a.1 (crd a t)).toNat * 1024 + 1 * j.val = _; rw [hb_pt a t hl]; omega)

/-- A live tile's block of weights 2. -/
theorem blk2 (t : Fin (cfg0 a).N) (hl : live a (t.val / 4)) (he : ex a ⟨t.val / 4, by have := pts a t; omega⟩ < 8) (k : Fin 2048) (j : Fin 1024) :
    @Eq EReal (iblk a V c 2 t (ix3 0 k j)) (V c main_v1 (ix3 ⟨ex a ⟨t.val / 4, by have := pts a t; omega⟩, he⟩ k ⟨t.val % 4 * 1024 + j.val, by omega⟩)) := by
  unfold iblk
  refine congrArg (V c main_v1) ?_
  refine funext fun (x : Fin 3) => ?_
  exact match x with
  | 0 => Fin.ext (by
      show cc0_transform_2 k0_off1_inb numel1_S1 inb_S1_S1_0 a.1 (crd a t) 0 * 1 + 1 * 0 = ex a ⟨t.val / 4, by have := pts a t; omega⟩
      rw [tr2]; show (tab0 a (ix1 (crd a t 0)) : BitVec 32).toNat * 1 + 1 * 0 = _; rw [ex_crd]; omega)
  | 1 => Fin.ext (by
      show cc0_transform_2 k0_off1_inb numel1_S1 inb_S1_S1_0 a.1 (crd a t) 1 * 2048 + 1 * k.val = k.val
      rw [tr2]; show 0 * 2048 + 1 * k.val = _; omega)
  | 2 => Fin.ext (by
      show cc0_transform_2 k0_off1_inb numel1_S1 inb_S1_S1_0 a.1 (crd a t) 2 * 1024 + 1 * j.val = t.val % 4 * 1024 + j.val
      rw [tr2]; show (hb a.1 (crd a t)).toNat * 1024 + 1 * j.val = _; rw [hb_pt a t hl]; omega)

/-- A live tile's block of the weights on the way back. -/
theorem blk3 (t : Fin (cfg0 a).N) (hl : live a (t.val / 4)) (he : ex a ⟨t.val / 4, by have := pts a t; omega⟩ < 8) (j : Fin 1024) (d : Fin 2048) :
    @Eq EReal (iblk a V c 3 t (ix3 0 j d)) (V c main_v2 (ix3 ⟨ex a ⟨t.val / 4, by have := pts a t; omega⟩, he⟩ ⟨t.val % 4 * 1024 + j.val, by omega⟩ d)) := by
  unfold iblk
  refine congrArg (V c main_v2) ?_
  refine funext fun (x : Fin 3) => ?_
  exact match x with
  | 0 => Fin.ext (by
      show cc0_transform_3 k0_off1_inb numel1_S1 inb_S1_S1_0 a.1 (crd a t) 0 * 1 + 1 * 0 = ex a ⟨t.val / 4, by have := pts a t; omega⟩
      rw [tr3]; show (tab0 a (ix1 (crd a t 0)) : BitVec 32).toNat * 1 + 1 * 0 = _; rw [ex_crd]; omega)
  | 1 => Fin.ext (by
      show cc0_transform_3 k0_off1_inb numel1_S1 inb_S1_S1_0 a.1 (crd a t) 1 * 1024 + 1 * j.val = t.val % 4 * 1024 + j.val
      rw [tr3]; show (hb a.1 (crd a t)).toNat * 1024 + 1 * j.val = _; rw [hb_pt a t hl]; omega)
  | 2 => Fin.ext (by
      show cc0_transform_3 k0_off1_inb numel1_S1 inb_S1_S1_0 a.1 (crd a t) 2 * 2048 + 1 * d.val = d.val
      rw [tr3]; show 0 * 2048 + 1 * d.val = _; omega)

/-- What a tile leaves in its block is the experts' layer of the arrays the region found. -/
theorem tile_eq (he : ∀ k, ex a k < 8) (k : Fin 72) (r : Fin 512) (d : Fin 2048) :
    @Eq EReal (traj0 a V c (pt a k 3).val (pt a k 3).isLt (ix2 r d))
      (moe (fun r k => V c main_arg0 (ix2 r k)) (fun k => tab0 a (ix1 k)) (tab1 a (ix1 0)) (fun e k j => V c main_v0 (ix3 e k j)) (fun e k j => V c main_v1 (ix3 e k j))
        (fun e j d => V c main_v2 (ix3 e j d)) ⟨k.val * 512 + r.val, by omega⟩ d) := by
  have hk : (k.val * 512 + r.val) / 512 = k.val := by omega
  unfold moe
  dsimp only
  simp only [hk]
  by_cases hl : live a k.val
  · have hte : te (fun k => tab0 a (ix1 k)) k = ⟨ex a k, he k⟩ := Fin.ext (Nat.mod_eq_of_lt (he k))
    refine (traj_live a V c k hl r d).trans ?_
    have hl2 : (BitVec.ofNat 32 k.val).slt (tab1 a (ix1 0)) = true := hl
    rw [if_pos hl2, hte]
    unfold expert
    rw [sum_blocks]
    have hadd : ∀ f : Fin 4, add a V c (pt a k f) r d = ∑ j : Fin 1024, @HMul.hMul EReal EReal EReal _
        (hid (fun i => V c main_arg0 (ix2 ⟨k.val * 512 + r.val, by omega⟩ i)) (fun i => V c main_v0 (ix3 ⟨ex a k, he k⟩ i ⟨f.val * 1024 + j.val, by omega⟩))
          (fun i => V c main_v1 (ix3 ⟨ex a k, he k⟩ i ⟨f.val * 1024 + j.val, by omega⟩))) (V c main_v2 (ix3 ⟨ex a k, he k⟩ ⟨f.val * 1024 + j.val, by omega⟩ d)) := by
      intro f
      have h4 : (pt a k f).val / 4 = k.val := by show (4 * k.val + f.val) / 4 = _; omega
      have h5 : (pt a k f).val % 4 = f.val := by show (4 * k.val + f.val) % 4 = _; omega
      have hl' : live a ((pt a k f).val / 4) := by rw [h4]; exact hl
      unfold add
      refine Finset.sum_congr rfl fun j _ => ?_
      simp only [blk0, blk1 a V c _ hl' (he _), blk2 a V c _ hl' (he _), blk3 a V c _ hl' (he _), h4, h5]
    rw [hadd 0, hadd 1, hadd 2, hadd 3]
    rfl
  · refine (traj_dead a V c k hl r d).trans ?_
    exact (if_neg hl).symm

/-- An element a view places an index at is under the view. -/
theorem mem_of_emb {sig : RefSig} {κ : Kind} {sp : Space} {S : Shape} {e : EltTy} (v : View sig κ sp S e) (y : S.Idx) {i : v.ty.Idx} (h : v.emb y = i) : i ∈ v.set :=
  h ▸ v.emb_mem_set y

/-- The array after the run is the experts' layer of the arrays the region found. -/
theorem array_eq (he : ∀ k, ex a k < 8) : (dats a V 0 c).arrAt (4 : Fin 5) (cfg0 a).N = fun i : S36864x2048.Idx =>
    moe (fun r k => V c main_arg0 (ix2 r k)) (fun k => tab0 a (ix1 k)) (tab1 a (ix1 0)) (fun e k j => V c main_v0 (ix3 e k j)) (fun e k j => V c main_v1 (ix3 e k j))
        (fun e j d => V c main_v2 (ix3 e j d)) (i 0) (i 1) := by
  refine (dats a V 0 c).arrAt_eq_of_emb (4 : Fin 5) _ (fun t hf y => ?_) (fun i => ?_)
  · rw [flush4, decide_eq_true_eq] at hf
    have ht := pts a t
    obtain ⟨r, d, rfl⟩ : ∃ (r : Fin 512) (d : Fin 2048), y = ix2 r d := ⟨y 0, y 1, by funext a; match a with | 0 => rfl | 1 => rfl⟩
    have e : t = pt a ⟨t.val / 4, by omega⟩ 3 := Fin.ext (by show t.val = 4 * (t.val / 4) + 3; omega)
    show @Eq EReal ((dats a V 0 c).after 4 t (ix2 r d)) _
    rw [after0_4]
    have e1 : ∀ t' : Fin (cfg0 a).N, t = t' → traj0 a V c t.val t.isLt = traj0 a V c t'.val t'.isLt := by rintro _ rfl; rfl
    refine (congrFun (e1 _ e) _).trans ((tile_eq a V c he ⟨t.val / 4, by omega⟩ r d).trans ?_)
    refine congrArg₂ (moe _ _ _ _ _ _) (Fin.ext ?_) (Fin.ext ?_)
    · show t.val / 4 * 512 + r.val = cc0_transform_4 (grid0.coords t) 0 * 512 + 1 * r.val
      rw [(tr04 t).2]; show _ = t.val / 4 * 512 + 1 * r.val; omega
    · show d.val = cc0_transform_4 (grid0.coords t) 1 * 2048 + 1 * d.val
      rw [(tr04 t).2]; show _ = 0 * 2048 + 1 * d.val; omega
  · have hi : (i 0).val < 36864 := (i 0).isLt
    have hd : (i 0).val / 512 < 72 := by omega
    refine ⟨pt a ⟨(i 0).val / 512, hd⟩ 3, ?_, ?_⟩
    · rw [flush4, decide_eq_true_eq]; show (4 * ((i 0).val / 512) + 3) % 4 = 3; omega
    · have hy : (((cfg0 a).win (4 : Fin 5)).blk (pt a ⟨(i 0).val / 512, hd⟩ 3)).view.emb (ix2 (⟨(i 0).val % 512, Nat.mod_lt _ (by decide)⟩ : Fin 512) (i 1)) = i := by
        refine funext fun (x : Fin 2) => ?_
        exact match x with
        | 0 => Fin.ext (by
            show cc0_transform_4 (grid0.coords (pt a ⟨(i 0).val / 512, hd⟩ 3)) 0 * 512 + 1 * ((i 0).val % 512) = (i 0).val
            rw [(tr04 _).2]; show (4 * ((i 0).val / 512) + 3) / 4 * 512 + 1 * ((i 0).val % 512) = _; omega)
        | 1 => Fin.ext (by
            show cc0_transform_4 (grid0.coords (pt a ⟨(i 0).val / 512, hd⟩ 3)) 1 * 2048 + 1 * (i 1).val = (i 1).val
            rw [(tr04 _).2]; show 0 * 2048 + 1 * (i 1).val = _; omega)
      exact mem_of_emb _ _ hy

variable (m : (ℓ : Loc nD τ sig) → Buf (Elt Ideal) ℓ)

/-- The weights the region finds are the arguments: narrowing keeps an extended real. -/
theorem VM_v0 (e : Fin 8) (k : Fin 2048) (j : Fin 4096) : @Eq EReal (VM m c main_v0 (ix3 e k j)) (m ((c.tc : Thread nD τ).loc main_arg3) (ix3 e k j)) := by
  unfold VM
  after_reads_at
theorem VM_v1 (e : Fin 8) (k : Fin 2048) (j : Fin 4096) : @Eq EReal (VM m c main_v1 (ix3 e k j)) (m ((c.tc : Thread nD τ).loc main_arg4) (ix3 e k j)) := by
  unfold VM
  after_reads_at
theorem VM_v2 (e : Fin 8) (j : Fin 4096) (d : Fin 2048) : @Eq EReal (VM m c main_v2 (ix3 e j d)) (m ((c.tc : Thread nD τ).loc main_arg5) (ix3 e j d)) := by
  unfold VM
  after_reads_at

/-- The experts' layer of the arguments as launched. -/
def goal (r : Fin 36864) (d : Fin 2048) : EReal :=
  moe (fun r k => m ((c.tc : Thread nD τ).loc main_arg0) (ix2 r k)) (fun k => m ((c.tc : Thread nD τ).loc main_arg1) (ix1 k)) (m ((c.tc : Thread nD τ).loc main_arg2) (ix1 0))
    (fun e k j => m ((c.tc : Thread nD τ).loc main_arg3) (ix3 e k j)) (fun e k j => m ((c.tc : Thread nD τ).loc main_arg4) (ix3 e k j))
    (fun e j d => m ((c.tc : Thread nD τ).loc main_arg5) (ix3 e j d)) r d

/-- The tables are the integer arguments. -/
theorem tbl_0 (k : Fin 72) : @Eq (BitVec 32) (tbl m 0 (ix1 k)) (m ((c.tc : Thread nD τ).loc main_arg1) (ix1 k)) := by
  have hc : c = 0 := Subsingleton.elim _ _
  subst hc
  exact congrFun (VM_1 m 0) (ix1 k)
theorem tbl_1 : @Eq (BitVec 32) (tbl m 1 (ix1 0)) (m ((c.tc : Thread nD τ).loc main_arg2) (ix1 0)) := by
  have hc : c = 0 := Subsingleton.elim _ _
  subst hc
  exact congrFun (VM_2 m 0) (ix1 0)

/-- The kernel's array after the run is the experts' layer of its arguments. -/
theorem array_goal (hok : ok0 (tbl m)) (he : ∀ k : Fin 72, (m ((c.tc : Thread nD τ).loc main_arg1) (ix1 k) : BitVec 32).toNat < 8) :
    (dats (⟨tbl m, hok⟩ : (pcfg0 (F := Ideal)).Adm) (VM m) 0 c).arrAt (4 : Fin 5) (cfg0 ⟨tbl m, hok⟩).N = fun i : S36864x2048.Idx => goal c m (i 0) (i 1) := by
  refine (array_eq ⟨tbl m, hok⟩ (VM m) c (fun k => ?_)).trans (funext fun i => ?_)
  · show (tbl m 0 (ix1 k) : BitVec 32).toNat < 8
    rw [tbl_0 c m]; exact he k
  · unfold goal
    have h0 : (fun (r : Fin 36864) (k : Fin 2048) => (VM m c main_arg0 (ix2 r k) : EReal)) = fun r k => m ((c.tc : Thread nD τ).loc main_arg0) (ix2 r k) :=
      funext fun r => funext fun k => congrFun (VM_0 m c) (ix2 r k)
    have h1 : (fun k : Fin 72 => (tab0 (⟨tbl m, hok⟩ : (pcfg0 (F := Ideal)).Adm) (ix1 k) : BitVec 32)) = fun k => m ((c.tc : Thread nD τ).loc main_arg1) (ix1 k) :=
      funext fun k => tbl_0 c m k
    have h2 : (tab1 (⟨tbl m, hok⟩ : (pcfg0 (F := Ideal)).Adm) (ix1 0) : BitVec 32) = m ((c.tc : Thread nD τ).loc main_arg2) (ix1 0) := tbl_1 c m
    have h3 : (fun (e : Fin 8) (k : Fin 2048) (j : Fin 4096) => (VM m c main_v0 (ix3 e k j) : EReal)) = fun e k j => m ((c.tc : Thread nD τ).loc main_arg3) (ix3 e k j) :=
      funext fun e => funext fun k => funext fun j => VM_v0 c m e k j
    have h4 : (fun (e : Fin 8) (k : Fin 2048) (j : Fin 4096) => (VM m c main_v1 (ix3 e k j) : EReal)) = fun e k j => m ((c.tc : Thread nD τ).loc main_arg4) (ix3 e k j) :=
      funext fun e => funext fun k => funext fun j => VM_v1 c m e k j
    have h5 : (fun (e : Fin 8) (j : Fin 4096) (d : Fin 2048) => (VM m c main_v2 (ix3 e j d) : EReal)) = fun e j d => m ((c.tc : Thread nD τ).loc main_arg5) (ix3 e j d) :=
      funext fun e => funext fun j => funext fun d => VM_v2 c m e j d
    rw [h0, h1, h2, h3, h4, h5]

end Cert.Kernel2Ideal.Moe
-- ==== Proof.MoeRef.lean ====
/- The experts' reference result, entry by entry. -/
module

public import proofs.«01_k».proof.Proof.Gen.Reference2Ideal.Run
public import proofs.«01_k».proof.Proof.Soft
public import proofs.«01_k».proof.Proof.MoeMath
public import Idealize.ShloMosaic.Lib.KernelVsHost

@[expose] public section
set_option maxRecDepth 16384
noncomputable section
namespace Cert.Reference2Ideal.Moe
open Cert.Reference2Ideal Cert.Reference2Ideal.Gen Cert.Reference2Ideal.Value Idealize.ShloMosaic Idealize.ShloMosaic.TcCoe Idealize.SL.Sem Idealize.ShloMosaic.StableHlo
open Cert.Experts

variable (V0 : Valuation τ sig (Elt Ideal))

/-- The six arguments by coordinates. -/
abbrev X (r : Fin 36864) (k : Fin 2048) : EReal := V0 (Proc.devRef .tc main_arg0) (ix2 r k)
abbrev T (k : Fin 72) : BitVec 32 := V0 (Proc.devRef .tc main_arg1) (ix1 k)
abbrev N : BitVec 32 := V0 (Proc.devRef .tc main_arg2) (ix1 0)
abbrev WG (e : Fin 8) (k : Fin 2048) (j : Fin 4096) : EReal := V0 (Proc.devRef .tc main_arg3) (ix3 e k j)
abbrev WU (e : Fin 8) (k : Fin 2048) (j : Fin 4096) : EReal := V0 (Proc.devRef .tc main_arg4) (ix3 e k j)
abbrev WD (e : Fin 8) (j : Fin 4096) (d : Fin 2048) : EReal := V0 (Proc.devRef .tc main_arg5) (ix3 e j d)

/-- The rows, unchanged by widening. -/
theorem v0 (r : Fin 36864) (k : Fin 2048) : @Eq EReal (res_main_v0 V0 (ix2 r k)) (X V0 r k) := by
  pointwise [res_main_v0]

/-- The result, as the reference composes it. -/
def res : S36864x2048.Idx → Elt Ideal .f32 :=
  addf (addf (addf (res_main_v87 V0) (mulf (broadcastInDim S36864x2048 ![0, 1] bcast_S36864x1_S36864x2048_0_1 (extractStridedSlice S36864x1 ![0, 5] (res_main_v11 V0) slices_S36864x8_S36864x1_0_5)) (Host.dotGeneral (φ₁ := .f32) (φ₂ := .f32) dot_S36864x4096_S4096x2048_S36864x2048_1_0_0_1_n_n none (mulf (mulf (res_main_v95 V0) (Host.divf (broadcastInDim S36864x4096 ![] bcast_S_S36864x4096 (constant S_ .f32 0x3F800000#32)) (addf (broadcastInDim S36864x4096 ![] bcast_S_S36864x4096 (constant S_ .f32 0x3F800000#32)) (Host.exp (Host.negf (res_main_v95 V0)))))) (Host.dotGeneral (φ₁ := .f32) (φ₂ := .f32) dot_S36864x2048_S2048x4096_S36864x4096_1_0_0_1_n_n none (res_main_v0 V0) (shapeCast _ (extractStridedSlice S1x2048x4096 ![5, 0, 0] (V0 (Proc.devRef .tc main_arg4)) slices_S8x2048x4096_S1x2048x4096_5_0_0) shapeCasts_S1x2048x4096_S2048x4096))) (shapeCast _ (extractStridedSlice S1x4096x2048 ![5, 0, 0] (V0 (Proc.devRef .tc main_arg5)) slices_S8x4096x2048_S1x4096x2048_5_0_0) shapeCasts_S1x4096x2048_S4096x2048)))) (mulf (broadcastInDim S36864x2048 ![0, 1] bcast_S36864x1_S36864x2048_0_1 (extractStridedSlice S36864x1 ![0, 6] (res_main_v11 V0) slices_S36864x8_S36864x1_0_6)) (Host.dotGeneral (φ₁ := .f32) (φ₂ := .f32) dot_S36864x4096_S4096x2048_S36864x2048_1_0_0_1_n_n none (mulf (mulf (res_main_v110 V0) (Host.divf (broadcastInDim S36864x4096 ![] bcast_S_S36864x4096 (constant S_ .f32 0x3F800000#32)) (addf (broadcastInDim S36864x4096 ![] bcast_S_S36864x4096 (constant S_ .f32 0x3F800000#32)) (Host.exp (Host.negf (res_main_v110 V0)))))) (Host.dotGeneral (φ₁ := .f32) (φ₂ := .f32) dot_S36864x2048_S2048x4096_S36864x4096_1_0_0_1_n_n none (res_main_v0 V0) (shapeCast _ (extractStridedSlice S1x2048x4096 ![6, 0, 0] (V0 (Proc.devRef .tc main_arg4)) slices_S8x2048x4096_S1x2048x4096_6_0_0) shapeCasts_S1x2048x4096_S2048x4096))) (shapeCast _ (extractStridedSlice S1x4096x2048 ![6, 0, 0] (V0 (Proc.devRef .tc main_arg5)) slices_S8x4096x2048_S1x4096x2048_6_0_0) shapeCasts_S1x4096x2048_S4096x2048)))) (mulf (broadcastInDim S36864x2048 ![0, 1] bcast_S36864x1_S36864x2048_0_1 (extractStridedSlice S36864x1 ![0, 7] (res_main_v11 V0) slices_S36864x8_S36864x1_0_7)) (Host.dotGeneral (φ₁ := .f32) (φ₂ := .f32) dot_S36864x4096_S4096x2048_S36864x2048_1_0_0_1_n_n none (mulf (mulf (res_main_v125 V0) (Host.divf (broadcastInDim S36864x4096 ![] bcast_S_S36864x4096 (constant S_ .f32 0x3F800000#32)) (addf (broadcastInDim S36864x4096 ![] bcast_S_S36864x4096 (constant S_ .f32 0x3F800000#32)) (Host.exp (Host.negf (res_main_v125 V0)))))) (Host.dotGeneral (φ₁ := .f32) (φ₂ := .f32) dot_S36864x2048_S2048x4096_S36864x4096_1_0_0_1_n_n none (res_main_v0 V0) (shapeCast _ (extractStridedSlice S1x2048x4096 ![7, 0, 0] (V0 (Proc.devRef .tc main_arg4)) slices_S8x2048x4096_S1x2048x4096_7_0_0) shapeCasts_S1x2048x4096_S2048x4096))) (shapeCast _ (extractStridedSlice S1x4096x2048 ![7, 0, 0] (V0 (Proc.devRef .tc main_arg5)) slices_S8x4096x2048_S1x4096x2048_7_0_0) shapeCasts_S1x4096x2048_S4096x2048)))

/-- The mask of expert `e` at row `r`: the row's tile is that expert's, and below the count. -/
def mask (r : Fin 36864) (e : Fin 8) : EReal :=
  FloatOps.uitofp (F := Ideal) FTy.f32 (IntOp.cmpi CmpIPredicate.eq (T V0 ⟨r.val / 512, by omega⟩) (BitVec.ofNat 32 e.val)) *
    FloatOps.uitofp (F := Ideal) FTy.f32 (IntOp.cmpi CmpIPredicate.slt (BitVec.ofNat 32 (r.val / 512)) (N V0))

theorem v11 (r : Fin 36864) (e : Fin 8) : @Eq EReal (res_main_v11 V0 (ix2 r e)) (mask V0 r e) := by
  pointwise [res_main_v11]
  rfl

theorem v20 (r : Fin 36864) (j : Fin 4096) : @Eq EReal (res_main_v20 V0 (ix2 r j)) (∑ k, X V0 r k * WG V0 0 k j) := by
  have h := v0 V0
  unfold res_main_v20
  generalize res_main_v0 V0 = a at *
  pointwise
  simp only [h]

theorem v35 (r : Fin 36864) (j : Fin 4096) : @Eq EReal (res_main_v35 V0 (ix2 r j)) (∑ k, X V0 r k * WG V0 1 k j) := by
  have h := v0 V0
  unfold res_main_v35
  generalize res_main_v0 V0 = a at *
  pointwise
  simp only [h]

theorem v50 (r : Fin 36864) (j : Fin 4096) : @Eq EReal (res_main_v50 V0 (ix2 r j)) (∑ k, X V0 r k * WG V0 2 k j) := by
  have h := v0 V0
  unfold res_main_v50
  generalize res_main_v0 V0 = a at *
  pointwise
  simp only [h]

theorem v65 (r : Fin 36864) (j : Fin 4096) : @Eq EReal (res_main_v65 V0 (ix2 r j)) (∑ k, X V0 r k * WG V0 3 k j) := by
  have h := v0 V0
  unfold res_main_v65
  generalize res_main_v0 V0 = a at *
  pointwise
  simp only [h]

theorem v80 (r : Fin 36864) (j : Fin 4096) : @Eq EReal (res_main_v80 V0 (ix2 r j)) (∑ k, X V0 r k * WG V0 4 k j) := by
  have h := v0 V0
  unfold res_main_v80
  generalize res_main_v0 V0 = a at *
  pointwise
  simp only [h]

theorem v95 (r : Fin 36864) (j : Fin 4096) : @Eq EReal (res_main_v95 V0 (ix2 r j)) (∑ k, X V0 r k * WG V0 5 k j) := by
  have h := v0 V0
  unfold res_main_v95
  generalize res_main_v0 V0 = a at *
  pointwise
  simp only [h]

theorem v110 (r : Fin 36864) (j : Fin 4096) : @Eq EReal (res_main_v110 V0 (ix2 r j)) (∑ k, X V0 r k * WG V0 6 k j) := by
  have h := v0 V0
  unfold res_main_v110
  generalize res_main_v0 V0 = a at *
  pointwise
  simp only [h]

theorem v125 (r : Fin 36864) (j : Fin 4096) : @Eq EReal (res_main_v125 V0 (ix2 r j)) (∑ k, X V0 r k * WG V0 7 k j) := by
  have h := v0 V0
  unfold res_main_v125
  generalize res_main_v0 V0 = a at *
  pointwise
  simp only [h]

/-- The first five experts' sum. -/
theorem v87 (r : Fin 36864) (d : Fin 2048) : @Eq EReal (res_main_v87 V0 (ix2 r d)) (0 + mask V0 r 0 * expert (X V0 r) (WG V0 0) (WU V0 0) (fun j => WD V0 0 j d) + mask V0 r 1 * expert (X V0 r) (WG V0 1) (WU V0 1) (fun j => WD V0 1 j d) + mask V0 r 2 * expert (X V0 r) (WG V0 2) (WU V0 2) (fun j => WD V0 2 j d) + mask V0 r 3 * expert (X V0 r) (WG V0 3) (WU V0 3) (fun j => WD V0 3 j d) + mask V0 r 4 * expert (X V0 r) (WG V0 4) (WU V0 4) (fun j => WD V0 4 j d)) := by
  have h0 := v0 V0
  have h11 := v11 V0
  have hv20 := v20 V0
  have hv35 := v35 V0
  have hv50 := v50 V0
  have hv65 := v65 V0
  have hv80 := v80 V0
  unfold res_main_v87
  unfold expert hid sg
  generalize res_main_v0 V0 = xv0 at *
  generalize res_main_v11 V0 = xv11 at *
  generalize res_main_v20 V0 = xv20 at *
  generalize res_main_v35 V0 = xv35 at *
  generalize res_main_v50 V0 = xv50 at *
  generalize res_main_v65 V0 = xv65 at *
  generalize res_main_v80 V0 = xv80 at *
  pointwise
  simp only [h0, h11, hv20, hv35, hv50, hv65, hv80]

/-- The reference's entry: the eight experts' masked outputs, added. -/
theorem res_sum (r : Fin 36864) (d : Fin 2048) : @Eq EReal (res V0 (ix2 r d)) (0 + mask V0 r 0 * expert (X V0 r) (WG V0 0) (WU V0 0) (fun j => WD V0 0 j d) + mask V0 r 1 * expert (X V0 r) (WG V0 1) (WU V0 1) (fun j => WD V0 1 j d) + mask V0 r 2 * expert (X V0 r) (WG V0 2) (WU V0 2) (fun j => WD V0 2 j d) + mask V0 r 3 * expert (X V0 r) (WG V0 3) (WU V0 3) (fun j => WD V0 3 j d) + mask V0 r 4 * expert (X V0 r) (WG V0 4) (WU V0 4) (fun j => WD V0 4 j d) + mask V0 r 5 * expert (X V0 r) (WG V0 5) (WU V0 5) (fun j => WD V0 5 j d) + mask V0 r 6 * expert (X V0 r) (WG V0 6) (WU V0 6) (fun j => WD V0 6 j d) + mask V0 r 7 * expert (X V0 r) (WG V0 7) (WU V0 7) (fun j => WD V0 7 j d)) := by
  have h0 := v0 V0
  have h11 := v11 V0
  have h87 := v87 V0
  have hv95 := v95 V0
  have hv110 := v110 V0
  have hv125 := v125 V0
  rw [← h87]
  unfold res
  unfold expert hid sg
  generalize res_main_v0 V0 = xv0 at *
  generalize res_main_v11 V0 = xv11 at *
  generalize res_main_v87 V0 = xv87 at *
  generalize res_main_v95 V0 = xv95 at *
  generalize res_main_v110 V0 = xv110 at *
  generalize res_main_v125 V0 = xv125 at *
  pointwise
  simp only [h0, h11, hv95, hv110, hv125]

/-- A condition as a number. -/
theorem bit (b : Bool) : @Eq EReal (FloatOps.uitofp (F := Ideal) FTy.f32 (BitVec.ofBool b)) (if b = true then 1 else 0) := by
  cases b
  · show @Eq EReal (((((BitVec.ofBool false).toNat : ℝ)) : EReal)) _
    simp
  · show @Eq EReal (((((BitVec.ofBool true).toNat : ℝ)) : EReal)) _
    simp

/-- A word below eight is `i` exactly when it names `i`. -/
theorem word_eq_iff (w : BitVec 32) (h : w.toNat < 8) (i : Fin 8) : (w == BitVec.ofNat 32 i.val) = true ↔ i = ⟨w.toNat % 8, Nat.mod_lt _ (by decide)⟩ := by
  rw [beq_iff_eq, ← BitVec.toNat_inj, BitVec.toNat_ofNat, Fin.ext_iff]
  dsimp only
  omega

/-- The reference's entry is the experts' layer's. -/
theorem res_eq (r : Fin 36864) (d : Fin 2048) (ht : (T V0 ⟨r.val / 512, by omega⟩).toNat < 8) :
    @Eq EReal (res V0 (ix2 r d)) (moe (X V0) (T V0) (N V0) (WG V0) (WU V0) (WD V0) r d) := by
  refine (res_sum V0 r d).trans ?_
  unfold moe
  have hm : ∀ i : Fin 8, mask V0 r i = if i = te (T V0) ⟨r.val / 512, by omega⟩ then (if (BitVec.ofNat 32 (r.val / 512)).slt (N V0) = true then 1 else 0) else 0 := by
    intro i
    unfold mask
    simp only [IntOp.cmpi, bit]
    have hi : (T V0 ⟨r.val / 512, by omega⟩ == BitVec.ofNat 32 i.val) = true ↔ i = te (T V0) ⟨r.val / 512, by omega⟩ := by
      exact word_eq_iff _ ht i
    by_cases hq : i = te (T V0) ⟨r.val / 512, by omega⟩
    · rw [if_pos (hi.2 hq), if_pos hq, one_mul]
    · rw [if_neg (fun q => hq (hi.1 q)), if_neg hq, zero_mul]
  by_cases hl : (BitVec.ofNat 32 (r.val / 512)).slt (N V0) = true
  · rw [if_pos hl]
    simp only [if_pos hl] at hm
    exact pick (fun e => expert (X V0 r) (WG V0 e) (WU V0 e) (fun j => WD V0 e j d)) (mask V0 r) _ hm
  · rw [if_neg hl]
    simp only [if_neg hl, ite_self] at hm
    exact pick_none (fun e => expert (X V0 r) (WG V0 e) (WU V0 e) (fun j => WD V0 e j d)) (mask V0 r) hm

end Cert.Reference2Ideal.Moe
-- ==== Proof.MoeClaims.lean ====
/- The claims about the experts' call. -/
module

public import proofs.«01_k».proof.Defs
public import proofs.«01_k».proof.Proof.MoeArray
public import proofs.«01_k».proof.Proof.MoeRef
public import proofs.«01_k».proof.Proof.Gen.Kernel2
public import proofs.«01_k».proof.Proof.Gen.Pre_experts_named

@[expose] public section
set_option maxRecDepth 16384
noncomputable section
namespace Cert.Proof.Moe
open Idealize.ShloMosaic Idealize.ShloMosaic.TcCoe Idealize.SL.Sem
open Cert.Experts
open Cert.Kernel2Ideal.Moe (run_main tbl VM_1 ok_of array_goal goal)

/-- A condition that came out true is true. -/
theorem of_bit {b : Bool} (h : BitVec.ofBool b = 1#1) : b = true := by
  cases b
  · exact absurd h (by decide)
  · rfl

/-- A word between zero and eight, signed, names an expert. -/
theorem word_lt (w : BitVec 32) (h0 : (0#32).sle w = true) (h8 : w.slt 8#32 = true) : w.toNat < 8 := by
  simp only [BitVec.sle, BitVec.slt, decide_eq_true_eq, BitVec.toInt, BitVec.toNat_ofNat] at h0 h8
  have := w.isLt
  split at h0 <;> split at h8 <;> simp at h0 h8 <;> omega

/-- Where the precondition holds every tile's word names an expert. -/
theorem named {F : FTy → Type} [FloatOps F] {x0 : FVec F Cert.Pre_experts_named.S36864x2048 .bf16} {x1 : IVec Cert.Pre_experts_named.S72 32} {x2 : IVec Cert.Pre_experts_named.S1 32}
    {x3 x4 : FVec F Cert.Pre_experts_named.S8x2048x4096 .f32} {x5 : FVec F Cert.Pre_experts_named.S8x4096x2048 .f32}
    (h : (Cert.Pre_experts_named.fn x0 x1 x2 x3 x4 x5).1 = (fun _ => 1#1) ∧ (Cert.Pre_experts_named.fn x0 x1 x2 x3 x4 x5).2 = fun _ => 1#1) (y : Cert.Pre_experts_named.S72.Idx) :
    (x1 y).toNat < 8 :=
  word_lt _ (of_bit (congrFun h.1 y)) (of_bit (congrFun h.2 y))

/-- The tables then keep every window inside its array. -/
theorem ok_tbl {F : FTy → Type} [FloatOps F] (m : (ℓ : Loc Cert.Kernel2Ideal.nD Cert.Kernel2Ideal.τ Cert.Kernel2Ideal.sig) → Buf (Elt F) ℓ)
    (h : ∀ k : Fin 72, (m (((0 : Dev Cert.Kernel2Ideal.nD).tc : Thread Cert.Kernel2Ideal.nD Cert.Kernel2Ideal.τ).loc Cert.Kernel2Ideal.main_arg1) (ix1 k) : BitVec 32).toNat < 8) :
    Cert.Kernel2Ideal.ok0 (tbl m) := by
  refine ok_of (tbl m) fun k => ?_
  have e : (tbl m 0 (ix1 k) : BitVec 32) = m (((0 : Dev Cert.Kernel2Ideal.nD).tc : Thread Cert.Kernel2Ideal.nD Cert.Kernel2Ideal.τ).loc Cert.Kernel2Ideal.main_arg1) (ix1 k) := congrFun (VM_1 m 0) (ix1 k)
  rw [e]
  exact h k

/-- The idealized kernel runs to quiescence, its arguments unchanged. -/
theorem frame_i : Cert.quiescent_Kernel2Ideal := fun m g hp =>
  (θ_run Cert.Kernel2Ideal.defs _ _).mono (fun r h => ⟨fun c => (h.1 c).2, h.2⟩) (run_main (F := Ideal) m g (ok_tbl m fun k => named (hp 0) (ix1 k)))

/-- The two programs' kernel bodies are the same. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l a
  exact match l with
  | ⟨0, _⟩ => rfl

/-- So are their body tables. -/
theorem defs_eq : Cert.Kernel2.defs (F := Bits) = Cert.Kernel2Ideal.defs (F := Bits) := by
  unfold Cert.Kernel2.defs Cert.Kernel2Ideal.defs
  exact congrArg (Pipeline.defs Cert.Kernel2Ideal.pcfgs) bodies_eq

/-- The kernel, the same text over bits, runs to quiescence, its arguments unchanged. -/
theorem frame_k : Cert.quiescent_Kernel2 := by
  intro m g hp
  rw [defs_eq]
  exact (θ_run Cert.Kernel2Ideal.defs _ _).mono (fun r h => ⟨fun c => (h.1 c).2, h.2⟩) (run_main (F := Bits) m g (ok_tbl m fun k => named (hp 0) (ix1 k)))

/-- The reference runs to quiescence, its arguments unchanged. -/
theorem frame_r : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Over the extended reals the kernel and the reference end with the same array: the experts' layer of the arguments. -/
theorem algebraic : Cert.algebraic_Kernel2Ideal_Reference2Ideal := by
  intro m g m' g' hp hag
  have hn : ∀ (c : Dev Cert.Kernel2Ideal.nD) (k : Fin 72), (m ((c.tc : Thread Cert.Kernel2Ideal.nD Cert.Kernel2Ideal.τ).loc Cert.Kernel2Ideal.main_arg1) (ix1 k) : BitVec 32).toNat < 8 :=
    fun c k => named (hp c) (ix1 k)
  refine ⟨fun c => fun i : Cert.Kernel2Ideal.S36864x2048.Idx => goal c m (i 0) (i 1), ?_, ?_⟩
  · exact (θ_run Cert.Kernel2Ideal.defs _ _).mono (fun r h c => ⟨((h.1 c).1).trans (array_goal c m (ok_tbl m (hn 0)) (hn c)), (h.1 c).2⟩)
      (run_main (F := Ideal) m g (ok_tbl m (hn 0)))
  · refine (θ_run Cert.Reference2Ideal.defs _ _).mono (fun r h c => ⟨((h c).1).trans (funext fun y => ?_), (h c).2⟩) (Cert.Reference2Ideal.Value.run (F := Ideal) m' g')
    obtain ⟨h0, h1, h2, h3, h4, h5⟩ := hag c
    obtain ⟨p, q, rfl⟩ : ∃ (p : Fin 36864) (q : Fin 2048), y = ix2 p q := ⟨y 0, y 1, by funext a; match a with | 0 => rfl | 1 => rfl⟩
    refine (Cert.Reference2Ideal.Moe.res_eq (StableHlo.launchContents m' c) p q ?_).trans ?_
    · have e : (Cert.Reference2Ideal.Moe.T (StableHlo.launchContents m' c) ⟨p.val / 512, by omega⟩) = m ((c.tc : Thread Cert.Kernel2Ideal.nD Cert.Kernel2Ideal.τ).loc Cert.Kernel2Ideal.main_arg1) (ix1 ⟨p.val / 512, by omega⟩) :=
        congrFun h1 (ix1 ⟨p.val / 512, by omega⟩)
      rw [e]; exact hn c _
    · have e0 : Cert.Reference2Ideal.Moe.X (StableHlo.launchContents m' c) = fun r k => m ((c.tc : Thread Cert.Kernel2Ideal.nD Cert.Kernel2Ideal.τ).loc Cert.Kernel2Ideal.main_arg0) (ix2 r k) :=
        funext fun r => funext fun k => congrFun h0 (ix2 r k)
      have e1 : Cert.Reference2Ideal.Moe.T (StableHlo.launchContents m' c) = fun k => m ((c.tc : Thread Cert.Kernel2Ideal.nD Cert.Kernel2Ideal.τ).loc Cert.Kernel2Ideal.main_arg1) (ix1 k) :=
        funext fun k => congrFun h1 (ix1 k)
      have e2 : Cert.Reference2Ideal.Moe.N (StableHlo.launchContents m' c) = m ((c.tc : Thread Cert.Kernel2Ideal.nD Cert.Kernel2Ideal.τ).loc Cert.Kernel2Ideal.main_arg2) (ix1 0) :=
        congrFun h2 (ix1 0)
      have e3 : Cert.Reference2Ideal.Moe.WG (StableHlo.launchContents m' c) = fun e k j => m ((c.tc : Thread Cert.Kernel2Ideal.nD Cert.Kernel2Ideal.τ).loc Cert.Kernel2Ideal.main_arg3) (ix3 e k j) :=
        funext fun e => funext fun k => funext fun j => congrFun h3 (ix3 e k j)
      have e4 : Cert.Reference2Ideal.Moe.WU (StableHlo.launchContents m' c) = fun e k j => m ((c.tc : Thread Cert.Kernel2Ideal.nD Cert.Kernel2Ideal.τ).loc Cert.Kernel2Ideal.main_arg4) (ix3 e k j) :=
        funext fun e => funext fun k => funext fun j => congrFun h4 (ix3 e k j)
      have e5 : Cert.Reference2Ideal.Moe.WD (StableHlo.launchContents m' c) = fun e j d => m ((c.tc : Thread Cert.Kernel2Ideal.nD Cert.Kernel2Ideal.τ).loc Cert.Kernel2Ideal.main_arg5) (ix3 e j d) :=
        funext fun e => funext fun j => funext fun d => congrFun h5 (ix3 e j d)
      rw [e0, e1, e2, e3, e4, e5]
      rfl

end Cert.Proof.Moe
-- ==== Proof.ModMath.lean ====
/- The modulated norm of a row, and the dense feed-forward part of it, over the extended reals. -/
module

public import proofs.«01_k».proof.Proof.MoeMath

@[expose] public section
noncomputable section
namespace Cert.Modulated
open Idealize.ShloMosaic Cert.Experts

theorem ix2_of {a b : Nat} {x : (⟨2, ![a, b]⟩ : Shape).Idx} {p : Fin a} {q : Fin b} (h0 : (x 0).val = p.val) (h1 : (x 1).val = q.val) : x = ix2 p q := by
  funext a
  match a with
  | 0 => exact Fin.ext h0
  | 1 => exact Fin.ext h1

theorem ix3_of {a b d : Nat} {x : (⟨3, ![a, b, d]⟩ : Shape).Idx} {p : Fin a} {q : Fin b} {r : Fin d} (h0 : (x 0).val = p.val) (h1 : (x 1).val = q.val) (h2 : (x 2).val = r.val) :
    x = ix3 p q r := by
  funext a
  match a with
  | 0 => exact Fin.ext h0
  | 1 => exact Fin.ext h1
  | 2 => exact Fin.ext h2

/-- A row over its root mean square, times the gain, scaled and shifted. -/
def row (x g sh sc : Fin 2048 → EReal) (k : Fin 2048) : EReal :=
  x k * Ideal.rsqrt (Ideal.div (∑ e, x e * x e) (Ideal.ofBits FTy.f32 1157627904#32) + Ideal.ofBits FTy.f32 897988541#32) * g k * (1 + sc k) + sh k

/-- The share of hidden units `f * 512` to `f * 512 + 511` in an entry of the feed-forward output. -/
def part (h : Fin 2048 → EReal) (wg wu : Fin 2048 → Fin 5632 → EReal) (wd : Fin 5632 → EReal) (f : Fin 11) : EReal :=
  ∑ j : Fin 512, hid h (fun k => wg k ⟨f.val * 512 + j.val, by omega⟩) (fun k => wu k ⟨f.val * 512 + j.val, by omega⟩) * wd ⟨f.val * 512 + j.val, by omega⟩

/-- All hidden units together. -/
def ffn (h : Fin 2048 → EReal) (wg wu : Fin 2048 → Fin 5632 → EReal) (wd : Fin 5632 → EReal) : EReal :=
  ∑ j, hid h (fun k => wg k j) (fun k => wu k j) * wd j

/-- The eleven shares add up to the whole. -/
theorem sum_parts (h : Fin 2048 → EReal) (wg wu : Fin 2048 → Fin 5632 → EReal) (wd : Fin 5632 → EReal) : ∑ f, part h wg wu wd f = ffn h wg wu wd := by
  unfold part ffn
  rw [← Equiv.sum_comp (finProdFinEquiv (m := 11) (n := 512)) fun j => hid h (fun k => wg k j) (fun k => wu k j) * wd j, Fintype.sum_prod_type]
  refine Finset.sum_congr rfl fun f _ => Finset.sum_congr rfl fun j _ => ?_
  have e : (⟨f.val * 512 + j.val, by omega⟩ : Fin 5632) = finProdFinEquiv (f, j) := Fin.ext (by simp only [finProdFinEquiv_apply_val]; omega)
  rw [e]

/-- A share by its number, and nothing beyond the eleventh. -/
def partAt (h : Fin 2048 → EReal) (wg wu : Fin 2048 → Fin 5632 → EReal) (wd : Fin 5632 → EReal) (f : Nat) : EReal :=
  if hf : f < 11 then part h wg wu wd ⟨f, hf⟩ else 0

theorem sum_partAt (h : Fin 2048 → EReal) (wg wu : Fin 2048 → Fin 5632 → EReal) (wd : Fin 5632 → EReal) : ∑ f ∈ Finset.range 11, partAt h wg wu wd f = ffn h wg wu wd := by
  rw [← sum_parts, Finset.sum_range]
  exact Finset.sum_congr rfl fun f _ => dif_pos f.isLt

end Cert.Modulated
-- ==== Proof.FfnBlock.lean ====
/- What the dense feed-forward call leaves in its output block and its scratch, point by point. -/
module

public import proofs.«01_k».proof.Proof.Gen.Kernel3Ideal.Value
public import proofs.«01_k».proof.Proof.ModMath
public import Idealize.ShloMosaic.Lib.Pipeline.ValueKit
public import Idealize.ShloMosaic.Lib.Pipeline.ReadBack

@[expose] public section
set_option maxRecDepth 16384
noncomputable section
namespace Cert.Kernel3Ideal.Ffn
open Cert.Kernel3Ideal Cert.Kernel3Ideal.Gen Idealize.ShloMosaic Idealize.ShloMosaic.TcCoe Idealize.SL.Sem
open Idealize.ShloMosaic.Pipeline (Dat)
open Cert.Experts Cert.Modulated

/-- The stored scratch: the modulated norm of the rows. -/
theorem pay1_apply (x : Vec Ideal S1024x2048 .f32) (g : Vec Ideal S1x2048 .f32) (sh sc : Vec Ideal S1x1x2048 .f32) (r : Fin 1024) (k : Fin 2048) :
    @Eq EReal (k0_pay1 x g sh sc (ix2 r k)) (row (fun e => x (ix2 r e)) (fun e => g (ix2 0 e)) (fun e => sh (ix3 0 0 e)) (fun e => sc (ix3 0 0 e)) k) := by
  pointwise [k0_pay1]
  unfold row
  rfl

/-- The stored zero block. -/
theorem pay2_apply (r : Fin 1024) (d : Fin 2048) : @Eq EReal (k0_pay2 (F := Ideal) (ix2 r d)) 0 := by
  pointwise [k0_pay2]

/-- The stored running block: what it held, plus 512 hidden units' share. -/
theorem pay3_apply (o : Vec Ideal S1024x2048 .f32) (h : Vec Ideal S1024x2048 .bf16) (wg wu : Vec Ideal S2048x512 .bf16) (wd : Vec Ideal S512x2048 .bf16)
    (r : Fin 1024) (d : Fin 2048) : @Eq EReal (k0_pay3 o h wg wu wd (ix2 r d))
      (@HAdd.hAdd EReal EReal EReal _ (o (ix2 r d)) (∑ j : Fin 512, hid (fun k => h (ix2 r k)) (fun k => wg (ix2 k j)) (fun k => wu (ix2 k j)) * (wd (ix2 j d) : EReal))) := by
  unfold hid sg
  simp only [← zsub]
  pointwise [k0_pay3]

/-- The stored last block: the rows, plus the gate times the sum. -/
theorem pay4_apply (x : Vec Ideal S1024x2048 .f32) (g : Vec Ideal S1x1x2048 .f32) (o : Vec Ideal S1024x2048 .f32) (r : Fin 1024) (d : Fin 2048) :
    @Eq EReal (k0_pay4 x g o (ix2 r d)) (@HAdd.hAdd EReal EReal EReal _ (x (ix2 r d)) (@HMul.hMul EReal EReal EReal _ (g (ix3 0 0 d)) (o (ix2 r d)))) := by
  pointwise [k0_pay4]

variable (m : (ℓ : Loc nD τ sig) → Buf (Elt Ideal) ℓ)

/-- One row of a block of modulation parameters. -/
def modrow (M : Vec Ideal S1x6x2048 .f32) (i : Fin 6) : Vec Ideal S1x1x2048 .f32 := fun y => M (ix3 0 i (y 2))

theorem ld3 (M : Vec Ideal S1x6x2048 .f32) : View.ld M (Rect.unit (s := S1x6x2048) ![0, 3, 0] S1x1x2048.size inb_S1x6x2048_S1x1x2048_0_3_0) = modrow M 3 := by
  funext y
  refine congrArg M (funext fun (a : Fin 3) => ?_)
  exact match a with
  | 0 => Fin.ext (by have := (y 0).isLt; show 0 + 1 * (y 0).val = 0; have h : (y 0).val < 1 := this; omega)
  | 1 => Fin.ext (by have := (y 1).isLt; show 3 + 1 * (y 1).val = 3; have h : (y 1).val < 1 := this; omega)
  | 2 => Fin.ext (by show 0 + 1 * (y 2).val = (y 2).val; omega)

theorem ld4 (M : Vec Ideal S1x6x2048 .f32) : View.ld M (Rect.unit (s := S1x6x2048) ![0, 4, 0] S1x1x2048.size inb_S1x6x2048_S1x1x2048_0_4_0) = modrow M 4 := by
  funext y
  refine congrArg M (funext fun (a : Fin 3) => ?_)
  exact match a with
  | 0 => Fin.ext (by have := (y 0).isLt; show 0 + 1 * (y 0).val = 0; have h : (y 0).val < 1 := this; omega)
  | 1 => Fin.ext (by have := (y 1).isLt; show 4 + 1 * (y 1).val = 4; have h : (y 1).val < 1 := this; omega)
  | 2 => Fin.ext (by show 0 + 1 * (y 2).val = (y 2).val; omega)

theorem ld5 (M : Vec Ideal S1x6x2048 .f32) : View.ld M (Rect.unit (s := S1x6x2048) ![0, 5, 0] S1x1x2048.size inb_S1x6x2048_S1x1x2048_0_5_0) = modrow M 5 := by
  funext y
  refine congrArg M (funext fun (a : Fin 3) => ?_)
  exact match a with
  | 0 => Fin.ext (by have := (y 0).isLt; show 0 + 1 * (y 0).val = 0; have h : (y 0).val < 1 := this; omega)
  | 1 => Fin.ext (by have := (y 1).isLt; show 5 + 1 * (y 1).val = 5; have h : (y 1).val < 1 := this; omega)
  | 2 => Fin.ext (by show 0 + 1 * (y 2).val = (y 2).val; omega)

/-- The rows a tile's points share: its rows, normalized and modulated. -/
def rows (c : Dev nD) (t : Fin cfg0.N) : Vec Ideal S1024x2048 .bf16 :=
  k0_pay1 (iblk m c 0 t) (iblk m c 2 t) (modrow (iblk m c 1 t) 3) (modrow (iblk m c 1 t) 4)

/-- A tile's first point leaves them in the scratch. -/
theorem scratch_A (c : Dev nD) (t : Fin cfg0.N) (h0 : t.val % 11 = 0) : (outsAt0 m c t.val t.isLt).2 = rows m c t := by
  rw [outsAt0_A m c t h0 (by omega)]
  dsimp only
  frame_out
  unfold rows
  rw [← ld3, ← ld4]

/-- The other points leave the scratch as it was. -/
theorem scratch_B (c : Dev nD) (t : Fin cfg0.N) (h0 : ¬ t.val % 11 = 0) :
    (outsAt0 m c t.val t.isLt).2 = (outsAt0 m c (t.val - 1) (Nat.lt_of_le_of_lt (Nat.sub_le _ _) t.isLt)).2 := by
  by_cases h1 : t.val % 11 = 10
  · rw [outsAt0_C m c t h0 h1]; rfl
  · rw [outsAt0_B m c t h0 h1]; rfl

/-- What a tile's first point leaves in the output's block. -/
theorem out_A (c : Dev nD) (t : Fin cfg0.N) (h0 : t.val % 11 = 0) :
    (outsAt0 m c t.val t.isLt).1 = k0_pay3 k0_pay2 (rows m c t) (iblk m c 3 t) (iblk m c 4 t) (iblk m c 5 t) := by
  rw [outsAt0_A m c t h0 (by omega)]
  dsimp only
  frame_out
  unfold rows
  rw [← ld3, ← ld4]

/-- What a middle point leaves there, over what the point before left. -/
theorem out_B (c : Dev nD) (t : Fin cfg0.N) (h0 : ¬ t.val % 11 = 0) (h1 : ¬ t.val % 11 = 10) :
    (outsAt0 m c t.val t.isLt).1 = k0_pay3 (outsAt0 m c (t.val - 1) (Nat.lt_of_le_of_lt (Nat.sub_le _ _) t.isLt)).1
      (outsAt0 m c (t.val - 1) (Nat.lt_of_le_of_lt (Nat.sub_le _ _) t.isLt)).2 (iblk m c 3 t) (iblk m c 4 t) (iblk m c 5 t) := by
  rw [outsAt0_B m c t h0 h1]
  dsimp only
  generalize (outsAt0 m c (t.val - 1) (Nat.lt_of_le_of_lt (Nat.sub_le _ _) t.isLt)) = p
  frame_out
  simp only [read_unread_whole]

/-- What a tile's last point leaves there. -/
theorem out_C (c : Dev nD) (t : Fin cfg0.N) (h0 : ¬ t.val % 11 = 0) (h1 : t.val % 11 = 10) :
    (outsAt0 m c t.val t.isLt).1 = k0_pay4 (iblk m c 0 t) (modrow (iblk m c 1 t) 5) (k0_pay3 (outsAt0 m c (t.val - 1) (Nat.lt_of_le_of_lt (Nat.sub_le _ _) t.isLt)).1
      (outsAt0 m c (t.val - 1) (Nat.lt_of_le_of_lt (Nat.sub_le _ _) t.isLt)).2 (iblk m c 3 t) (iblk m c 4 t) (iblk m c 5 t)) := by
  rw [outsAt0_C m c t h0 h1]
  dsimp only
  generalize (outsAt0 m c (t.val - 1) (Nat.lt_of_le_of_lt (Nat.sub_le _ _) t.isLt)) = p
  frame_out
  rw [← ld5]
  simp only [read_unread_whole]

end Cert.Kernel3Ideal.Ffn
-- ==== Proof.FfnArray.lean ====
/- The array the dense feed-forward call ends with. -/
module

public import proofs.«01_k».proof.Proof.FfnBlock
public import Idealize.ShloMosaic.Lib.StableHlo.ReadAt

@[expose] public section
set_option maxRecDepth 16384
noncomputable section
namespace Cert.Kernel3Ideal.Ffn
open Cert.Kernel3Ideal Cert.Kernel3Ideal.Gen Idealize.ShloMosaic Idealize.ShloMosaic.TcCoe Idealize.SL.Sem
open Cert.Experts Cert.Modulated
variable (m : (ℓ : Loc nD τ sig) → Buf (Elt Ideal) ℓ)

/-- The gain and the weights as staged are the arguments. -/
theorem V0_apply (c : Dev nD) (d : Fin 2048) : @Eq EReal (V m c main_v0 (ix2 0 d)) (m ((c : Thread nD τ).loc main_arg2) (ix1 d)) := by
  unfold V
  after_reads_at
theorem V1_apply (c : Dev nD) (k : Fin 2048) (j : Fin 5632) : @Eq EReal (V m c main_v1 (ix2 k j)) (m ((c : Thread nD τ).loc main_arg3) (ix2 k j)) := by
  unfold V
  after_reads_at
theorem V2_apply (c : Dev nD) (k : Fin 2048) (j : Fin 5632) : @Eq EReal (V m c main_v2 (ix2 k j)) (m ((c : Thread nD τ).loc main_arg4) (ix2 k j)) := by
  unfold V
  after_reads_at
theorem V3_apply (c : Dev nD) (j : Fin 5632) (d : Fin 2048) : @Eq EReal (V m c main_v3 (ix2 j d)) (m ((c : Thread nD τ).loc main_arg5) (ix2 j d)) := by
  unfold V
  after_reads_at

/-- Which blocks a point works on: point `t` is row tile `t / 11`, hidden tile `t % 11`. -/
theorem indices : ∀ t : Fin cfg0.N,
    (win0_0.index t 0 = t.val / 11 ∧ win0_0.index t 1 = 0)
    ∧ (win0_1.index t 0 = t.val / 22 ∧ win0_1.index t 1 = 0 ∧ win0_1.index t 2 = 0)
    ∧ (win0_2.index t 0 = 0 ∧ win0_2.index t 1 = 0)
    ∧ (win0_3.index t 0 = 0 ∧ win0_3.index t 1 = t.val % 11) ∧ (win0_4.index t 0 = 0 ∧ win0_4.index t 1 = t.val % 11)
    ∧ (win0_5.index t 0 = t.val % 11 ∧ win0_5.index t 1 = 0)
    ∧ (win0_6.index t 0 = t.val / 11 ∧ win0_6.index t 1 = 0) :=
  (by decide +kernel : ∀ t : Fin grid0.N, _)

theorem t_lt (t : Fin cfg0.N) : t.val < 176 := lt_of_lt_of_eq t.isLt N_0

/-- The arguments by coordinates. -/
abbrev X (c : Dev nD) (r : Fin 16384) (k : Fin 2048) : EReal := m ((c : Thread nD τ).loc main_arg0) (ix2 r k)
abbrev M (c : Dev nD) (b : Fin 8) (i : Fin 6) (k : Fin 2048) : EReal := m ((c : Thread nD τ).loc main_arg1) (ix3 b i k)
abbrev G (c : Dev nD) (k : Fin 2048) : EReal := m ((c : Thread nD τ).loc main_arg2) (ix1 k)
abbrev WG (c : Dev nD) (k : Fin 2048) (j : Fin 5632) : EReal := m ((c : Thread nD τ).loc main_arg3) (ix2 k j)
abbrev WU (c : Dev nD) (k : Fin 2048) (j : Fin 5632) : EReal := m ((c : Thread nD τ).loc main_arg4) (ix2 k j)
abbrev WD (c : Dev nD) (j : Fin 5632) (d : Fin 2048) : EReal := m ((c : Thread nD τ).loc main_arg5) (ix2 j d)

theorem blk_x (c : Dev nD) (t : Fin cfg0.N) (r : Fin 1024) (k : Fin 2048) : @Eq EReal (iblk m c 0 t (ix2 r k))
    (X m c ⟨t.val / 11 * 1024 + r.val, by have := t_lt t; omega⟩ k) := by
  unfold iblk
  rw [View.read_apply]
  show V m c main_arg0 _ = _
  rw [V_main_arg0]
  refine congrArg (m _) (ix2_of ?_ ?_)
  · show win0_0.index t 0 * 1024 + 1 * r.val = _; rw [(indices t).1.1]; dsimp only; omega
  · show win0_0.index t 1 * 2048 + 1 * k.val = _; rw [(indices t).1.2]; omega

theorem blk_m (c : Dev nD) (t : Fin cfg0.N) (i : Fin 6) (k : Fin 2048) : @Eq EReal (iblk m c 1 t (ix3 0 i k))
    (M m c ⟨t.val / 22, by have := t_lt t; omega⟩ i k) := by
  unfold iblk
  rw [View.read_apply]
  show V m c main_arg1 _ = _
  rw [V_main_arg1]
  refine congrArg (m _) (ix3_of ?_ ?_ ?_)
  · show win0_1.index t 0 * 1 + 1 * 0 = _; rw [(indices t).2.1.1]; dsimp only; omega
  · show win0_1.index t 1 * 6 + 1 * i.val = _; rw [(indices t).2.1.2.1]; omega
  · show win0_1.index t 2 * 2048 + 1 * k.val = _; rw [(indices t).2.1.2.2]; omega

theorem blk_g (c : Dev nD) (t : Fin cfg0.N) (k : Fin 2048) : @Eq EReal (iblk m c 2 t (ix2 0 k)) (G m c k) := by
  refine Eq.trans ?_ (V0_apply m c k)
  unfold iblk
  rw [View.read_apply]
  refine congrArg (V m c main_v0) (ix2_of ?_ ?_)
  · show win0_2.index t 0 * 1 + 1 * 0 = _; rw [(indices t).2.2.1.1]; rfl
  · show win0_2.index t 1 * 2048 + 1 * k.val = _; rw [(indices t).2.2.1.2]; omega

theorem blk_wg (c : Dev nD) (t : Fin cfg0.N) (k : Fin 2048) (j : Fin 512) : @Eq EReal (iblk m c 3 t (ix2 k j)) (WG m c k ⟨t.val % 11 * 512 + j.val, by omega⟩) := by
  refine Eq.trans ?_ (V1_apply m c k _)
  unfold iblk
  rw [View.read_apply]
  refine congrArg (V m c main_v1) (ix2_of ?_ ?_)
  · show win0_3.index t 0 * 2048 + 1 * k.val = _; rw [(indices t).2.2.2.1.1]; omega
  · show win0_3.index t 1 * 512 + 1 * j.val = _; rw [(indices t).2.2.2.1.2]; dsimp only; omega

theorem blk_wu (c : Dev nD) (t : Fin cfg0.N) (k : Fin 2048) (j : Fin 512) : @Eq EReal (iblk m c 4 t (ix2 k j)) (WU m c k ⟨t.val % 11 * 512 + j.val, by omega⟩) := by
  refine Eq.trans ?_ (V2_apply m c k _)
  unfold iblk
  rw [View.read_apply]
  refine congrArg (V m c main_v2) (ix2_of ?_ ?_)
  · show win0_4.index t 0 * 2048 + 1 * k.val = _; rw [(indices t).2.2.2.2.1.1]; omega
  · show win0_4.index t 1 * 512 + 1 * j.val = _; rw [(indices t).2.2.2.2.1.2]; dsimp only; omega

theorem blk_wd (c : Dev nD) (t : Fin cfg0.N) (j : Fin 512) (d : Fin 2048) : @Eq EReal (iblk m c 5 t (ix2 j d)) (WD m c ⟨t.val % 11 * 512 + j.val, by omega⟩ d) := by
  refine Eq.trans ?_ (V3_apply m c _ d)
  unfold iblk
  rw [View.read_apply]
  refine congrArg (V m c main_v3) (ix2_of ?_ ?_)
  · show win0_5.index t 0 * 512 + 1 * j.val = _; rw [(indices t).2.2.2.2.2.1.1]; dsimp only; omega
  · show win0_5.index t 1 * 2048 + 1 * d.val = _; rw [(indices t).2.2.2.2.2.1.2]; omega

theorem blk_row (c : Dev nD) (t : Fin cfg0.N) (i : Fin 6) (k : Fin 2048) : @Eq EReal (modrow (iblk m c 1 t) i (ix3 0 0 k)) (M m c ⟨t.val / 22, by have := t_lt t; omega⟩ i k) := by
  refine Eq.trans ?_ (blk_m m c t i k)
  rfl

/-- The modulated norm of a row. -/
def H (c : Dev nD) (q : Fin 16384) (k : Fin 2048) : EReal :=
  row (X m c q) (G m c) (M m c ⟨q.val / 2048, by omega⟩ 3) (M m c ⟨q.val / 2048, by omega⟩ 4) k

theorem rows_apply (c : Dev nD) (t : Fin cfg0.N) (r : Fin 1024) (k : Fin 2048) : @Eq EReal (rows m c t (ix2 r k))
    (H m c ⟨t.val / 11 * 1024 + r.val, by have := t_lt t; omega⟩ k) := by
  have ht := t_lt t
  unfold rows
  rw [pay1_apply]
  simp only [blk_x, blk_g, blk_row]
  unfold H
  have e : (t.val / 11 * 1024 + r.val) / 2048 = t.val / 22 := by omega
  simp only [e]

/-- So two points of one tile share them. -/
theorem rows_tile (c : Dev nD) (t t' : Fin cfg0.N) (h : t.val / 11 = t'.val / 11) : rows m c t = rows m c t' := by
  funext y
  obtain ⟨r, k, rfl⟩ : ∃ (r : Fin 1024) (k : Fin 2048), y = ix2 r k := ⟨y 0, y 1, ix2_of rfl rfl⟩
  have e1 := rows_apply m c t r k
  have e2 := rows_apply m c t' r k
  rw [e1, e2]
  simp only [h]

/-- The scratch holds the tile's rows at every point. -/
theorem scratch_eq (c : Dev nD) : ∀ (n : Nat) (hn : n < cfg0.N), (outsAt0 m c n hn).2 = rows m c ⟨n, hn⟩ := by
  intro n
  induction n with
  | zero => intro hn; exact scratch_A m c ⟨0, hn⟩ rfl
  | succ n ih =>
    intro hn
    by_cases h0 : (n + 1) % 11 = 0
    · exact scratch_A m c ⟨n + 1, hn⟩ h0
    · rw [scratch_B m c ⟨n + 1, hn⟩ h0]
      show (outsAt0 m c n _).2 = _
      rw [ih]
      exact rows_tile m c _ _ (by dsimp only; omega)

/-- A row's share of one hidden tile. -/
def P (c : Dev nD) (q : Fin 16384) (d : Fin 2048) (f : Nat) : EReal := partAt (H m c q) (WG m c) (WU m c) (fun j => WD m c j d) f

/-- What a point adds is its tile's share. -/
theorem add_part (c : Dev nD) (t : Fin cfg0.N) (o : Vec Ideal S1024x2048 .f32) (r : Fin 1024) (d : Fin 2048) :
    @Eq EReal (k0_pay3 o (rows m c t) (iblk m c 3 t) (iblk m c 4 t) (iblk m c 5 t) (ix2 r d))
      (@HAdd.hAdd EReal EReal EReal _ (o (ix2 r d)) (P m c ⟨t.val / 11 * 1024 + r.val, by have := t_lt t; omega⟩ d (t.val % 11))) := by
  rw [pay3_apply]
  simp only [rows_apply, blk_wg, blk_wu, blk_wd]
  unfold P partAt
  rw [dif_pos (Nat.mod_lt _ (by decide))]
  rfl

/-- Before a tile's last point the output's block holds the shares so far. -/
theorem out_sum (c : Dev nD) : ∀ (n : Nat) (hn : n < cfg0.N) (h : ¬ n % 11 = 10) (r : Fin 1024) (d : Fin 2048), @Eq EReal ((outsAt0 m c n hn).1 (ix2 r d))
    (∑ f ∈ Finset.range (n % 11 + 1), P m c ⟨n / 11 * 1024 + r.val, by have : n < 176 := lt_of_lt_of_eq hn N_0; omega⟩ d f) := by
  intro n
  induction n with
  | zero =>
    intro hn _ r d
    rw [out_A m c ⟨0, hn⟩ rfl]
    refine (add_part m c ⟨0, hn⟩ _ r d).trans ?_
    rw [pay2_apply, Finset.sum_range_succ]
    rfl
  | succ n ih =>
    intro hn h1 r d
    have hN : n + 1 < 176 := lt_of_lt_of_eq hn N_0
    by_cases h0 : (n + 1) % 11 = 0
    · rw [out_A m c ⟨n + 1, hn⟩ h0]
      refine (add_part m c ⟨n + 1, hn⟩ _ r d).trans ?_
      rw [pay2_apply]
      simp only [h0, Finset.sum_range_succ, Finset.range_zero, Finset.sum_empty]
    · rw [out_B m c ⟨n + 1, hn⟩ h0 h1, ← scratch_B m c ⟨n + 1, hn⟩ h0, scratch_eq]
      refine (add_part m c ⟨n + 1, hn⟩ _ r d).trans ?_
      rw [Finset.sum_range_succ]
      refine congrArg₂ (@HAdd.hAdd EReal EReal EReal _) ((ih (Nat.lt_of_succ_lt hn) (by omega) r d).trans ?_) rfl
      have e1 : n / 11 = (n + 1) / 11 := by omega
      have e2 : n % 11 + 1 = (n + 1) % 11 := by omega
      simp only [e1, e2]

/-- The feed-forward part of the layer, of the arguments as launched. -/
def goal (c : Dev nD) (q : Fin 16384) (d : Fin 2048) : EReal :=
  X m c q d + M m c ⟨q.val / 2048, by omega⟩ 5 d * ffn (H m c q) (WG m c) (WU m c) (fun j => WD m c j d)

/-- What a tile's last point leaves in the output's block. -/
theorem out_goal (c : Dev nD) (t : Fin cfg0.N) (h : t.val % 11 = 10) (r : Fin 1024) (d : Fin 2048) : @Eq EReal ((outsAt0 m c t.val t.isLt).1 (ix2 r d))
    (goal m c ⟨t.val / 11 * 1024 + r.val, by have := t_lt t; omega⟩ d) := by
  have ht := t_lt t
  have h0 : ¬ t.val % 11 = 0 := by omega
  rw [out_C m c t h0 h, ← scratch_B m c t h0, scratch_eq, pay4_apply]
  rw [add_part, out_sum m c (t.val - 1) _ (by omega), blk_x, blk_row]
  unfold goal
  rw [← sum_partAt, Finset.sum_range_succ _ 10]
  have e1 : (t.val - 1) / 11 = t.val / 11 := by omega
  have e2 : (t.val - 1) % 11 + 1 = 10 := by omega
  have e3 : (t.val / 11 * 1024 + r.val) / 2048 = t.val / 22 := by omega
  rw [e2]
  simp only [e1, e3, h]
  rfl

/-- Only a tile's last point writes its block back. -/
theorem flush_last : ∀ t : Fin cfg0.N, (cfg0.win 6).flush t = true → t.val % 11 = 10 := (by decide +kernel : ∀ t : Fin grid0.N, _)

/-- The kernel's array after the run is the feed-forward part of its arguments. -/
theorem array_eq (c : Dev nD) : (dats m 0 c).arrAt 6 cfg0.N = fun i : S16384x2048.Idx => goal m c (i 0) (i 1) := by
  refine (dats m 0 c).arrAt_eq_of_covers 6 _ (by decide +kernel) fun t hf y => ?_
  blk_simp
  rw [after0_6]
  obtain ⟨r, k, rfl⟩ : ∃ (r : Fin 1024) (k : Fin 2048), y = ix2 r k := ⟨y 0, y 1, ix2_of rfl rfl⟩
  refine (out_goal m c t (flush_last t hf) r k).trans (congrArg₂ (goal m c) (Fin.ext ?_) (Fin.ext ?_))
  · show _ = win0_6.index t 0 * 1024 + 1 * r.val; rw [(indices t).2.2.2.2.2.2.1]; dsimp only; omega
  · show _ = win0_6.index t 1 * 2048 + 1 * k.val; rw [(indices t).2.2.2.2.2.2.2]; omega

end Cert.Kernel3Ideal.Ffn
-- ==== Proof.FfnRef.lean ====
/- The dense feed-forward reference's result, entry by entry. -/
module

public import proofs.«01_k».proof.Proof.Gen.Reference3Ideal.Run
public import proofs.«01_k».proof.Proof.ModMath
public import Idealize.ShloMosaic.Lib.KernelVsHost

@[expose] public section
set_option maxRecDepth 16384
noncomputable section
namespace Cert.Reference3Ideal.Ffn
open Cert.Reference3Ideal Cert.Reference3Ideal.Gen Cert.Reference3Ideal.Value Idealize.ShloMosaic Idealize.ShloMosaic.TcCoe Idealize.SL.Sem
open Cert.Experts Cert.Modulated

variable (x : Vec Ideal S16384x2048 .f32) (md : Vec Ideal S8x6x2048 .f32) (g : Vec Ideal S2048 .f32)

/-- The modulated norm, as the reference composes it. -/
def h2 : FVec Ideal S8x2048x2048 .f32 :=
  addf (mulf (mulf (mulf (shapeCast _ x shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ x shapeCasts_S16384x2048_S8x2048x2048) (shapeCast _ x shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 4, 0] md slices_S8x6x2048_S8x1x2048_0_4_0)))) (broadcastInDim S8x2048x2048 ![0, 1, 2] bcast_S8x1x2048_S8x2048x2048_0_1_2 (extractStridedSlice S8x1x2048 ![0, 3, 0] md slices_S8x6x2048_S8x1x2048_0_3_0))

/-- A place of it is the modulated norm of the row. -/
theorem h2_apply (b : Fin 8) (p k : Fin 2048) : @Eq EReal (h2 x md g (ix3 b p k))
    (row (fun e => x (ix2 ⟨b.val * 2048 + p.val, by omega⟩ e)) (fun e => g (ix1 e)) (fun e => md (ix3 b 3 e)) (fun e => md (ix3 b 4 e)) k) := by
  pointwise [h2]
  unfold row
  rfl

variable (h : FVec Ideal S8x2048x2048 .f32) (w : Vec Ideal S2048x5632 .f32)

/-- A projection of the normalized rows. -/
def proj : FVec Ideal S8x2048x5632 .f32 := Host.dotGeneral (φ₁ := .f32) (φ₂ := .f32) dot_S8x2048x2048_S2048x5632_S8x2048x5632_2_0_01_1_n_n none h w

theorem proj_apply (b : Fin 8) (p : Fin 2048) (j : Fin 5632) : @Eq EReal (proj h w (ix3 b p j)) (∑ k, (h (ix3 b p k) : EReal) * (w (ix2 k j) : EReal)) := by
  pointwise [proj]

/-- The gated hidden units, of their two projections. -/
def gated (a u : FVec Ideal S8x2048x5632 .f32) : FVec Ideal S8x2048x5632 .f32 :=
  mulf (mulf a (Host.divf (broadcastInDim S8x2048x5632 ![] bcast_S_S8x2048x5632 (constant S_ .f32 0x3F800000#32)) (addf (broadcastInDim S8x2048x5632 ![] bcast_S_S8x2048x5632 (constant S_ .f32 0x3F800000#32)) (Host.exp (Host.negf a))))) u

theorem gated_apply (a u : FVec Ideal S8x2048x5632 .f32) (b : Fin 8) (p : Fin 2048) (j : Fin 5632) : @Eq EReal (gated a u (ix3 b p j))
    (@HMul.hMul EReal EReal EReal _ (@HMul.hMul EReal EReal EReal _ (a (ix3 b p j)) (sg (a (ix3 b p j)))) (u (ix3 b p j))) := by
  pointwise [gated]
  unfold sg
  rfl

/-- The result of the rows, the gates and the hidden units. -/
def last (q : FVec Ideal S8x2048x5632 .f32) (wd : Vec Ideal S5632x2048 .f32) : FVec Ideal S16384x2048 .f32 :=
  shapeCast _ (addf (shapeCast _ x shapeCasts_S16384x2048_S8x2048x2048) (mulf (broadcastInDim S8x2048x2048 ![0, 1, 2] bcast_S8x1x2048_S8x2048x2048_0_1_2 (extractStridedSlice S8x1x2048 ![0, 5, 0] md slices_S8x6x2048_S8x1x2048_0_5_0)) (Host.dotGeneral (φ₁ := .f32) (φ₂ := .f32) dot_S8x2048x5632_S5632x2048_S8x2048x2048_2_0_01_1_n_n none q wd))) shapeCasts_S8x2048x2048_S16384x2048

theorem last_apply (q : FVec Ideal S8x2048x5632 .f32) (wd : Vec Ideal S5632x2048 .f32) (r : Fin 16384) (d : Fin 2048) : @Eq EReal (last x md q wd (ix2 r d))
    (@HAdd.hAdd EReal EReal EReal _ (x (ix2 r d)) (@HMul.hMul EReal EReal EReal _ (md (ix3 ⟨r.val / 2048, by omega⟩ 5 d))
      (∑ j, (q (ix3 ⟨r.val / 2048, by omega⟩ ⟨r.val % 2048, by omega⟩ j) : EReal) * (wd (ix2 j d) : EReal)))) := by
  pointwise [last]

/-- The reference's result is these put together. -/
theorem res_def (m : (ℓ : Loc nD τ sig) → Buf (Elt Ideal) ℓ) (c : Dev nD) : res_main_v31 m c =
    last (m ((c.tc : Thread nD τ).loc main_arg0)) (m ((c.tc : Thread nD τ).loc main_arg1))
      (gated (proj (h2 (m ((c.tc : Thread nD τ).loc main_arg0)) (m ((c.tc : Thread nD τ).loc main_arg1)) (m ((c.tc : Thread nD τ).loc main_arg2))) (m ((c.tc : Thread nD τ).loc main_arg3)))
        (proj (h2 (m ((c.tc : Thread nD τ).loc main_arg0)) (m ((c.tc : Thread nD τ).loc main_arg1)) (m ((c.tc : Thread nD τ).loc main_arg2))) (m ((c.tc : Thread nD τ).loc main_arg4))))
      (m ((c.tc : Thread nD τ).loc main_arg5)) := rfl

/-- An entry of it is the feed-forward part of the arguments. -/
theorem put (wg wu : Vec Ideal S2048x5632 .f32) (wd : Vec Ideal S5632x2048 .f32) (r : Fin 16384) (d : Fin 2048) :
    @Eq EReal (last x md (gated (proj (h2 x md g) wg) (proj (h2 x md g) wu)) wd (ix2 r d))
      (@HAdd.hAdd EReal EReal EReal _ (x (ix2 r d)) (@HMul.hMul EReal EReal EReal _ (md (ix3 ⟨r.val / 2048, by omega⟩ 5 d))
        (ffn (row (fun e => x (ix2 r e)) (fun e => g (ix1 e)) (fun e => md (ix3 ⟨r.val / 2048, by omega⟩ 3 e)) (fun e => md (ix3 ⟨r.val / 2048, by omega⟩ 4 e)))
          (fun k j => wg (ix2 k j)) (fun k j => wu (ix2 k j)) (fun j => wd (ix2 j d))))) := by
  rw [last_apply]
  simp only [gated_apply, proj_apply, h2_apply]
  have e : (⟨r.val / 2048 * 2048 + r.val % 2048, by omega⟩ : Fin 16384) = r := Fin.ext (by show r.val / 2048 * 2048 + r.val % 2048 = r.val; omega)
  simp only [e]
  rfl

end Cert.Reference3Ideal.Ffn
-- ==== Proof.FfnClaims.lean ====
/- The claims about the dense feed-forward call. -/
module

public import proofs.«01_k».proof.Defs
public import proofs.«01_k».proof.Proof.FfnArray
public import proofs.«01_k».proof.Proof.FfnRef
public import proofs.«01_k».proof.Proof.Gen.Kernel3.Frame
public import Idealize.ShloMosaic.Lib.Claim

@[expose] public section
set_option maxRecDepth 16384
noncomputable section
namespace Cert.Proof.Ffn
open Idealize.ShloMosaic Idealize.ShloMosaic.TcCoe Idealize.SL.Sem
open Cert.Modulated

/-- The reference runs to quiescence, its arguments unchanged. -/
theorem frame_r : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Over the extended reals the kernel and the reference end with the same array: the feed-forward part of the layer, of the arguments. -/
theorem algebraic : Cert.algebraic_Kernel3Ideal_Reference3Ideal := by
  intro m g m' g' _ hag
  refine ⟨fun c => fun i : Cert.Kernel3Ideal.S16384x2048.Idx => Cert.Kernel3Ideal.Ffn.goal m c (i 0) (i 1), ?_, ?_⟩
  · exact (θ_run Cert.Kernel3Ideal.defs _ _).mono (fun r h c => ⟨((h c).1).trans (Cert.Kernel3Ideal.Ffn.array_eq m c), (h c).2⟩)
      (Cert.Kernel3Ideal.Value.run_blocks (F := Ideal) m g)
  · refine (θ_run Cert.Reference3Ideal.defs _ _).mono (fun r h c => ⟨((h c).1).trans (funext fun y => ?_), (h c).2⟩) (Cert.Reference3Ideal.Value.run (F := Ideal) m' g')
    obtain ⟨h0, h1, h2, h3, h4, h5⟩ := hag c
    obtain ⟨p, q, rfl⟩ : ∃ (p : Fin 16384) (q : Fin 2048), y = ix2 p q := ⟨y 0, y 1, ix2_of rfl rfl⟩
    rw [Cert.Reference3Ideal.Ffn.res_def]
    refine (Cert.Reference3Ideal.Ffn.put _ _ _ _ _ _ p q).trans ?_
    rw [h0, h1, h2, h3, h4, h5]
    rfl

end Cert.Proof.Ffn
-- ==== Proof.InpBlock.lean ====
/- What the in-projection call leaves in its output block and its scratch, point by point. -/
module

public import proofs.«01_k».proof.Proof.Gen.Kernel4Ideal.Value
public import proofs.«01_k».proof.Proof.ModMath
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel4Ideal.Inp
open Cert.Kernel4Ideal Cert.Kernel4Ideal.Gen Idealize.ShloMosaic Idealize.ShloMosaic.TcCoe Idealize.SL.Sem
open Cert.Modulated

/-- The stored scratch: the modulated norm of the rows. -/
theorem pay1_apply (x : Vec Ideal S1024x2048 .f32) (g : Vec Ideal S1x2048 .f32) (sh sc : Vec Ideal S1x1x2048 .f32) (r : Fin 1024) (k : Fin 2048) :
    @Eq EReal (k0_pay1 x g sh sc (ix2 r k)) (row (fun e => x (ix2 r e)) (fun e => g (ix2 0 e)) (fun e => sh (ix3 0 0 e)) (fun e => sc (ix3 0 0 e)) k) := by
  pointwise [k0_pay1]
  unfold row
  rfl

/-- The stored block: the rows times a tile of the weights. -/
theorem pay2_apply (h : Vec Ideal S1024x2048 .bf16) (w : Vec Ideal S2048x1536 .bf16) (r : Fin 1024) (j : Fin 1536) :
    @Eq EReal (k0_pay2 h w (ix2 r j)) (∑ k, (h (ix2 r k) : EReal) * (w (ix2 k j) : EReal)) := by
  pointwise [k0_pay2]

variable (m : (ℓ : Loc nD τ sig) → Buf (Elt Ideal) ℓ)

/-- One row of a block of modulation parameters. -/
def modrow (M : Vec Ideal S1x6x2048 .f32) (i : Fin 6) : Vec Ideal S1x1x2048 .f32 := fun y => M (ix3 0 i (y 2))

theorem ld0 (M : Vec Ideal S1x6x2048 .f32) : View.ld M (Rect.unit (s := S1x6x2048) ![0, 0, 0] S1x1x2048.size inb_S1x6x2048_S1x1x2048_0_0_0) = modrow M 0 := by
  funext y
  refine congrArg M (funext fun (a : Fin 3) => ?_)
  exact match a with
  | 0 => Fin.ext (by have := (y 0).isLt; show 0 + 1 * (y 0).val = 0; have h : (y 0).val < 1 := this; omega)
  | 1 => Fin.ext (by have := (y 1).isLt; show 0 + 1 * (y 1).val = 0; have h : (y 1).val < 1 := this; omega)
  | 2 => Fin.ext (by show 0 + 1 * (y 2).val = (y 2).val; omega)

theorem ld1 (M : Vec Ideal S1x6x2048 .f32) : View.ld M (Rect.unit (s := S1x6x2048) ![0, 1, 0] S1x1x2048.size inb_S1x6x2048_S1x1x2048_0_1_0) = modrow M 1 := by
  funext y
  refine congrArg M (funext fun (a : Fin 3) => ?_)
  exact match a with
  | 0 => Fin.ext (by have := (y 0).isLt; show 0 + 1 * (y 0).val = 0; have h : (y 0).val < 1 := this; omega)
  | 1 => Fin.ext (by have := (y 1).isLt; show 1 + 1 * (y 1).val = 1; have h : (y 1).val < 1 := this; omega)
  | 2 => Fin.ext (by show 0 + 1 * (y 2).val = (y 2).val; omega)

/-- The rows a tile's points share: its rows, normalized and modulated. -/
def rows (c : Dev nD) (t : Fin cfg0.N) : Vec Ideal S1024x2048 .bf16 :=
  k0_pay1 (iblk m c 0 t) (iblk m c 2 t) (modrow (iblk m c 1 t) 0) (modrow (iblk m c 1 t) 1)

/-- A tile's first point leaves them in the scratch. -/
theorem scratch_A (c : Dev nD) (t : Fin cfg0.N) (h0 : t.val % 3 = 0) : (outsAt0 m c t.val t.isLt).2 = rows m c t := by
  rw [outsAt0_A m c t h0]
  dsimp only
  frame_out
  unfold rows
  rw [← ld0, ← ld1]

/-- The other points leave the scratch as it was. -/
theorem scratch_B (c : Dev nD) (t : Fin cfg0.N) (h0 : ¬ t.val % 3 = 0) :
    (outsAt0 m c t.val t.isLt).2 = (outsAt0 m c (t.val - 1) (Nat.lt_of_le_of_lt (Nat.sub_le _ _) t.isLt)).2 := by
  rw [outsAt0_B m c t h0]
  rfl

/-- What a tile's first point leaves in the output's block. -/
theorem out_A (c : Dev nD) (t : Fin cfg0.N) (h0 : t.val % 3 = 0) : (outsAt0 m c t.val t.isLt).1 = k0_pay2 (rows m c t) (iblk m c 3 t) := by
  rw [outsAt0_A m c t h0]
  dsimp only
  frame_out
  unfold rows
  rw [← ld0, ← ld1]

/-- What the other points leave there, over the scratch the point before left. -/
theorem out_B (c : Dev nD) (t : Fin cfg0.N) (h0 : ¬ t.val % 3 = 0) :
    (outsAt0 m c t.val t.isLt).1 = k0_pay2 (outsAt0 m c (t.val - 1) (Nat.lt_of_le_of_lt (Nat.sub_le _ _) t.isLt)).2 (iblk m c 3 t) := by
  rw [outsAt0_B m c t h0]
  dsimp only
  generalize (outsAt0 m c (t.val - 1) (Nat.lt_of_le_of_lt (Nat.sub_le _ _) t.isLt)) = p
  frame_out
  simp only [read_unread_whole]

end Cert.Kernel4Ideal.Inp
-- ==== Proof.InpArray.lean ====
/- The array the in-projection call ends with. -/
module

public import proofs.«01_k».proof.Proof.InpBlock

@[expose] public section
set_option maxRecDepth 16384
noncomputable section
namespace Cert.Kernel4Ideal.Inp
open Cert.Kernel4Ideal Cert.Kernel4Ideal.Gen Idealize.ShloMosaic Idealize.ShloMosaic.TcCoe Idealize.SL.Sem
open Cert.Modulated
variable (m : (ℓ : Loc nD τ sig) → Buf (Elt Ideal) ℓ)

/-- The gain and the weights as staged are the arguments. -/
theorem V0_apply (c : Dev nD) (d : Fin 2048) : @Eq EReal (V m c main_v0 (ix2 0 d)) (m ((c : Thread nD τ).loc main_arg2) (ix1 d)) := by
  unfold V
  after_reads_at
theorem V1_apply (c : Dev nD) (k : Fin 2048) (j : Fin 4608) : @Eq EReal (V m c main_v1 (ix2 k j)) (m ((c : Thread nD τ).loc main_arg3) (ix2 k j)) := by
  unfold V
  after_reads_at

/-- Which blocks a point works on: point `t` is row tile `t / 3`, column tile `t % 3`. -/
theorem indices : ∀ t : Fin cfg0.N,
    (win0_0.index t 0 = t.val / 3 ∧ win0_0.index t 1 = 0)
    ∧ (win0_1.index t 0 = t.val / 6 ∧ win0_1.index t 1 = 0 ∧ win0_1.index t 2 = 0)
    ∧ (win0_2.index t 0 = 0 ∧ win0_2.index t 1 = 0)
    ∧ (win0_3.index t 0 = 0 ∧ win0_3.index t 1 = t.val % 3)
    ∧ (win0_4.index t 0 = t.val / 3 ∧ win0_4.index t 1 = t.val % 3) :=
  (by decide +kernel : ∀ t : Fin grid0.N, _)

theorem t_lt (t : Fin cfg0.N) : t.val < 48 := lt_of_lt_of_eq t.isLt N_0

/-- The arguments by coordinates. -/
abbrev X (c : Dev nD) (r : Fin 16384) (k : Fin 2048) : EReal := m ((c : Thread nD τ).loc main_arg0) (ix2 r k)
abbrev M (c : Dev nD) (b : Fin 8) (i : Fin 6) (k : Fin 2048) : EReal := m ((c : Thread nD τ).loc main_arg1) (ix3 b i k)
abbrev G (c : Dev nD) (k : Fin 2048) : EReal := m ((c : Thread nD τ).loc main_arg2) (ix1 k)
abbrev W (c : Dev nD) (k : Fin 2048) (j : Fin 4608) : EReal := m ((c : Thread nD τ).loc main_arg3) (ix2 k j)

theorem blk_x (c : Dev nD) (t : Fin cfg0.N) (r : Fin 1024) (k : Fin 2048) : @Eq EReal (iblk m c 0 t (ix2 r k))
    (X m c ⟨t.val / 3 * 1024 + r.val, by have := t_lt t; omega⟩ k) := by
  unfold iblk
  rw [View.read_apply]
  show V m c main_arg0 _ = _
  rw [V_main_arg0]
  refine congrArg (m _) (ix2_of ?_ ?_)
  · show win0_0.index t 0 * 1024 + 1 * r.val = _; rw [(indices t).1.1]; dsimp only; omega
  · show win0_0.index t 1 * 2048 + 1 * k.val = _; rw [(indices t).1.2]; omega

theorem blk_m (c : Dev nD) (t : Fin cfg0.N) (i : Fin 6) (k : Fin 2048) : @Eq EReal (iblk m c 1 t (ix3 0 i k))
    (M m c ⟨t.val / 6, by have := t_lt t; omega⟩ i k) := by
  unfold iblk
  rw [View.read_apply]
  show V m c main_arg1 _ = _
  rw [V_main_arg1]
  refine congrArg (m _) (ix3_of ?_ ?_ ?_)
  · show win0_1.index t 0 * 1 + 1 * 0 = _; rw [(indices t).2.1.1]; dsimp only; omega
  · show win0_1.index t 1 * 6 + 1 * i.val = _; rw [(indices t).2.1.2.1]; omega
  · show win0_1.index t 2 * 2048 + 1 * k.val = _; rw [(indices t).2.1.2.2]; omega

theorem blk_g (c : Dev nD) (t : Fin cfg0.N) (k : Fin 2048) : @Eq EReal (iblk m c 2 t (ix2 0 k)) (G m c k) := by
  refine Eq.trans ?_ (V0_apply m c k)
  unfold iblk
  rw [View.read_apply]
  refine congrArg (V m c main_v0) (ix2_of ?_ ?_)
  · show win0_2.index t 0 * 1 + 1 * 0 = _; rw [(indices t).2.2.1.1]; rfl
  · show win0_2.index t 1 * 2048 + 1 * k.val = _; rw [(indices t).2.2.1.2]; omega

theorem blk_w (c : Dev nD) (t : Fin cfg0.N) (k : Fin 2048) (j : Fin 1536) : @Eq EReal (iblk m c 3 t (ix2 k j)) (W m c k ⟨t.val % 3 * 1536 + j.val, by omega⟩) := by
  refine Eq.trans ?_ (V1_apply m c k _)
  unfold iblk
  rw [View.read_apply]
  refine congrArg (V m c main_v1) (ix2_of ?_ ?_)
  · show win0_3.index t 0 * 2048 + 1 * k.val = _; rw [(indices t).2.2.2.1.1]; omega
  · show win0_3.index t 1 * 1536 + 1 * j.val = _; rw [(indices t).2.2.2.1.2]; dsimp only; omega

theorem blk_row (c : Dev nD) (t : Fin cfg0.N) (i : Fin 6) (k : Fin 2048) : @Eq EReal (modrow (iblk m c 1 t) i (ix3 0 0 k)) (M m c ⟨t.val / 6, by have := t_lt t; omega⟩ i k) := by
  refine Eq.trans ?_ (blk_m m c t i k)
  rfl

/-- The modulated norm of a row. -/
def H (c : Dev nD) (q : Fin 16384) (k : Fin 2048) : EReal :=
  row (X m c q) (G m c) (M m c ⟨q.val / 2048, by omega⟩ 0) (M m c ⟨q.val / 2048, by omega⟩ 1) k

theorem rows_apply (c : Dev nD) (t : Fin cfg0.N) (r : Fin 1024) (k : Fin 2048) : @Eq EReal (rows m c t (ix2 r k))
    (H m c ⟨t.val / 3 * 1024 + r.val, by have := t_lt t; omega⟩ k) := by
  have ht := t_lt t
  unfold rows
  rw [pay1_apply]
  simp only [blk_x, blk_g, blk_row]
  unfold H
  have e : (t.val / 3 * 1024 + r.val) / 2048 = t.val / 6 := by omega
  simp only [e]

/-- So two points of one tile share them. -/
theorem rows_tile (c : Dev nD) (t t' : Fin cfg0.N) (h : t.val / 3 = t'.val / 3) : rows m c t = rows m c t' := by
  funext y
  obtain ⟨r, k, rfl⟩ : ∃ (r : Fin 1024) (k : Fin 2048), y = ix2 r k := ⟨y 0, y 1, ix2_of rfl rfl⟩
  have e1 := rows_apply m c t r k
  have e2 := rows_apply m c t' r k
  rw [e1, e2]
  simp only [h]

/-- The scratch holds the tile's rows at every point. -/
theorem scratch_eq (c : Dev nD) : ∀ (n : Nat) (hn : n < cfg0.N), (outsAt0 m c n hn).2 = rows m c ⟨n, hn⟩ := by
  intro n
  induction n with
  | zero => intro hn; exact scratch_A m c ⟨0, hn⟩ rfl
  | succ n ih =>
    intro hn
    by_cases h0 : (n + 1) % 3 = 0
    · exact scratch_A m c ⟨n + 1, hn⟩ h0
    · rw [scratch_B m c ⟨n + 1, hn⟩ h0]
      show (outsAt0 m c n _).2 = _
      rw [ih]
      exact rows_tile m c _ _ (by dsimp only; omega)

/-- What every point leaves in the output's block. -/
theorem out_eq (c : Dev nD) (t : Fin cfg0.N) : (outsAt0 m c t.val t.isLt).1 = k0_pay2 (rows m c t) (iblk m c 3 t) := by
  by_cases h0 : t.val % 3 = 0
  · exact out_A m c t h0
  · rw [out_B m c t h0, ← scratch_B m c t h0, scratch_eq m c t.val t.isLt]

/-- The in-projection of the arguments as launched. -/
def goal (c : Dev nD) (q : Fin 16384) (j : Fin 4608) : EReal := ∑ k, H m c q k * W m c k j

/-- A place of a point's block is the in-projection at that place of the array. -/
theorem out_goal (c : Dev nD) (t : Fin cfg0.N) (r : Fin 1024) (j : Fin 1536) : @Eq EReal ((outsAt0 m c t.val t.isLt).1 (ix2 r j))
    (goal m c ⟨t.val / 3 * 1024 + r.val, by have := t_lt t; omega⟩ ⟨t.val % 3 * 1536 + j.val, by omega⟩) := by
  rw [out_eq, pay2_apply]
  simp only [rows_apply, blk_w]
  rfl

/-- The kernel's array after the run is the in-projection of its arguments. -/
theorem array_eq (c : Dev nD) : (dats m 0 c).arrAt 4 cfg0.N = fun i : S16384x4608.Idx => goal m c (i 0) (i 1) := by
  refine (dats m 0 c).arrAt_eq_of_covers 4 _ (by decide +kernel) fun t hf y => ?_
  blk_simp
  rw [after0_4]
  obtain ⟨r, k, rfl⟩ : ∃ (r : Fin 1024) (k : Fin 1536), y = ix2 r k := ⟨y 0, y 1, ix2_of rfl rfl⟩
  refine (out_goal m c t r k).trans (congrArg₂ (goal m c) (Fin.ext ?_) (Fin.ext ?_))
  · show _ = win0_4.index t 0 * 1024 + 1 * r.val; rw [(indices t).2.2.2.2.1]; dsimp only; omega
  · show _ = win0_4.index t 1 * 1536 + 1 * k.val; rw [(indices t).2.2.2.2.2]; dsimp only; omega

end Cert.Kernel4Ideal.Inp
-- ==== Proof.InpRef.lean ====
/- The in-projection reference's result, entry by entry. -/
module

public import proofs.«01_k».proof.Proof.Gen.Reference4Ideal.Run
public import proofs.«01_k».proof.Proof.ModMath
public import Idealize.ShloMosaic.Lib.KernelVsHost

@[expose] public section
set_option maxRecDepth 16384
noncomputable section
namespace Cert.Reference4Ideal.Inp
open Cert.Reference4Ideal Cert.Reference4Ideal.Gen Cert.Reference4Ideal.Value Idealize.ShloMosaic Idealize.ShloMosaic.TcCoe Idealize.SL.Sem
open Cert.Modulated

variable (x : Vec Ideal S16384x2048 .f32) (md : Vec Ideal S8x6x2048 .f32) (g : Vec Ideal S2048 .f32)

/-- The modulated norm, as the reference composes it. -/
def nrm : FVec Ideal S8x2048x2048 .f32 :=
  addf (mulf (mulf (mulf (shapeCast _ x shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ x shapeCasts_S16384x2048_S8x2048x2048) (shapeCast _ x shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) (broadcastInDim S8x2048x2048 ![0, 1, 2] bcast_S8x1x2048_S8x2048x2048_0_1_2 (addf (broadcastInDim S8x1x2048 ![] bcast_S_S8x1x2048 (constant S_ .f32 0x3F800000#32)) (extractStridedSlice S8x1x2048 ![0, 1, 0] md slices_S8x6x2048_S8x1x2048_0_1_0)))) (broadcastInDim S8x2048x2048 ![0, 1, 2] bcast_S8x1x2048_S8x2048x2048_0_1_2 (extractStridedSlice S8x1x2048 ![0, 0, 0] md slices_S8x6x2048_S8x1x2048_0_0_0))

/-- A place of it is the modulated norm of the row. -/
theorem nrm_apply (b : Fin 8) (p k : Fin 2048) : @Eq EReal (nrm x md g (ix3 b p k))
    (row (fun e => x (ix2 ⟨b.val * 2048 + p.val, by omega⟩ e)) (fun e => g (ix1 e)) (fun e => md (ix3 b 0 e)) (fun e => md (ix3 b 1 e)) k) := by
  pointwise [nrm]
  unfold row
  rfl

/-- The result of the normalized rows. -/
def last (h : FVec Ideal S8x2048x2048 .f32) (w : Vec Ideal S2048x4608 .f32) : FVec Ideal S16384x4608 .bf16 :=
  truncf .bf16 (shapeCast S16384x4608 (Host.dotGeneral (φ₁ := .f32) (φ₂ := .f32) dot_S8x2048x2048_S2048x4608_S8x2048x4608_2_0_01_1_n_n none h w) shapeCasts_S8x2048x4608_S16384x4608) bitsLt_bf16_f32

theorem last_apply (h : FVec Ideal S8x2048x2048 .f32) (w : Vec Ideal S2048x4608 .f32) (r : Fin 16384) (j : Fin 4608) : @Eq EReal (last h w (ix2 r j))
    (∑ k, (h (ix3 ⟨r.val / 2048, by omega⟩ ⟨r.val % 2048, by omega⟩ k) : EReal) * (w (ix2 k j) : EReal)) := by
  pointwise [last]

/-- An entry of the two together is the in-projection of the arguments. -/
theorem put (w : Vec Ideal S2048x4608 .f32) (r : Fin 16384) (j : Fin 4608) : @Eq EReal (last (nrm x md g) w (ix2 r j))
    (∑ k, row (fun e => x (ix2 r e)) (fun e => g (ix1 e)) (fun e => md (ix3 ⟨r.val / 2048, by omega⟩ 0 e)) (fun e => md (ix3 ⟨r.val / 2048, by omega⟩ 1 e)) k * (w (ix2 k j) : EReal)) := by
  rw [last_apply]
  simp only [nrm_apply]
  have e : (⟨r.val / 2048 * 2048 + r.val % 2048, by omega⟩ : Fin 16384) = r := Fin.ext (by show r.val / 2048 * 2048 + r.val % 2048 = r.val; omega)
  simp only [e]

end Cert.Reference4Ideal.Inp
-- ==== Proof.InpClaims.lean ====
/- The claims about the in-projection call. -/
module

public import proofs.«01_k».proof.Defs
public import proofs.«01_k».proof.Proof.InpArray
public import proofs.«01_k».proof.Proof.InpRef
public import proofs.«01_k».proof.Proof.Gen.Kernel4.Frame
public import Idealize.ShloMosaic.Lib.Claim

@[expose] public section
set_option maxRecDepth 16384
noncomputable section
namespace Cert.Proof.Inp
open Idealize.ShloMosaic Idealize.ShloMosaic.TcCoe Idealize.SL.Sem
open Cert.Modulated

/-- The reference runs to quiescence, its arguments unchanged. -/
theorem frame_r : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- Over the extended reals the kernel and the reference end with the same array: the in-projection of the arguments. -/
theorem algebraic : Cert.algebraic_Kernel4Ideal_Reference4Ideal := by
  intro m g m' g' _ hag
  refine ⟨fun c => fun i : Cert.Kernel4Ideal.S16384x4608.Idx => Cert.Kernel4Ideal.Inp.goal m c (i 0) (i 1), ?_, ?_⟩
  · exact (θ_run Cert.Kernel4Ideal.defs _ _).mono (fun r h c => ⟨((h c).1).trans (Cert.Kernel4Ideal.Inp.array_eq m c), (h c).2⟩)
      (Cert.Kernel4Ideal.Value.run_blocks (F := Ideal) m g)
  · refine (θ_run Cert.Reference4Ideal.defs _ _).mono (fun r h c => ⟨((h c).1).trans (funext fun y => ?_), (h c).2⟩) (Cert.Reference4Ideal.Value.run (F := Ideal) m' g')
    obtain ⟨h0, h1, h2, h3⟩ := hag c
    obtain ⟨p, q, rfl⟩ : ∃ (p : Fin 16384) (q : Fin 4608), y = ix2 p q := ⟨y 0, y 1, ix2_of rfl rfl⟩
    refine (Cert.Reference4Ideal.Inp.put (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) p q).trans ?_
    rw [h0, h1, h2, h3]
    rfl

end Cert.Proof.Inp
-- ==== Proof.OutArray.lean ====
/- The array the out-projection call ends with. -/
module

public import proofs.«01_k».proof.Proof.Gen.Kernel5Ideal.Value
public import proofs.«01_k».proof.Proof.ModMath
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel5Ideal.Outp
open Cert.Kernel5Ideal Cert.Kernel5Ideal.Gen Idealize.ShloMosaic Idealize.ShloMosaic.TcCoe Idealize.SL.Sem
open Cert.Modulated

/-- The stored block: the carried rows plus the gated sum of the two products. -/
theorem pay_apply (a wa d wd : Vec Ideal S1024x1024 .bf16) (x : Vec Ideal S1024x1024 .f32) (g : Vec Ideal S1x1x1024 .f32) (r j : Fin 1024) :
    @Eq EReal (k0_pay1 a wa d wd x g (ix2 r j))
      ((x (ix2 r j) : EReal) + (g (ix3 0 0 j) : EReal) * ((∑ k, (a (ix2 r k) : EReal) * (wa (ix2 k j) : EReal)) + ∑ k, (d (ix2 r k) : EReal) * (wd (ix2 k j) : EReal))) := by
  pointwise [k0_pay1]

/-- The gate's row of a block of modulation parameters. -/
def gate (M : Vec Ideal S1x6x1024 .f32) : Vec Ideal S1x1x1024 .f32 := fun y => M (ix3 0 2 (y 2))

theorem ld2 (M : Vec Ideal S1x6x1024 .f32) : View.ld M (Rect.unit (s := S1x6x1024) ![0, 2, 0] S1x1x1024.size inb_S1x6x1024_S1x1x1024_0_2_0) = gate M := by
  funext y
  refine congrArg M (funext fun (a : Fin 3) => ?_)
  exact match a with
  | 0 => Fin.ext (by have := (y 0).isLt; show 0 + 1 * (y 0).val = 0; have h : (y 0).val < 1 := this; omega)
  | 1 => Fin.ext (by have := (y 1).isLt; show 2 + 1 * (y 1).val = 2; have h : (y 1).val < 1 := this; omega)
  | 2 => Fin.ext (by show 0 + 1 * (y 2).val = (y 2).val; omega)

variable (m : (ℓ : Loc nD τ sig) → Buf (Elt Ideal) ℓ)

/-- The weights as staged are the argument. -/
theorem V0_apply (c : Dev nD) (k j : Fin 2048) : @Eq EReal (V m c main_v0 (ix2 k j)) (m ((c : Thread nD τ).loc main_arg2) (ix2 k j)) := by
  unfold V
  after_reads_at

/-- Which blocks a point works on: point `t` is row tile `t / 2`, column tile `t % 2`. -/
theorem indices : ∀ t : Fin cfg0.N,
    (win0_0.index t 0 = t.val / 2 ∧ win0_0.index t 1 = 0)
    ∧ (win0_1.index t 0 = t.val / 2 ∧ win0_1.index t 1 = 0)
    ∧ (win0_2.index t 0 = 0 ∧ win0_2.index t 1 = t.val % 2)
    ∧ (win0_3.index t 0 = 1 ∧ win0_3.index t 1 = t.val % 2)
    ∧ (win0_4.index t 0 = t.val / 2 ∧ win0_4.index t 1 = t.val % 2)
    ∧ (win0_5.index t 0 = t.val / 4 ∧ win0_5.index t 1 = 0 ∧ win0_5.index t 2 = t.val % 2)
    ∧ (win0_6.index t 0 = t.val / 2 ∧ win0_6.index t 1 = t.val % 2) :=
  (by decide +kernel : ∀ t : Fin grid0.N, _)

theorem t_lt (t : Fin cfg0.N) : t.val < 32 := lt_of_lt_of_eq t.isLt N_0

/-- The arguments by coordinates. -/
abbrev A (c : Dev nD) (r : Fin 16384) (k : Fin 1024) : EReal := m ((c : Thread nD τ).loc main_arg0) (ix2 r k)
abbrev D (c : Dev nD) (r : Fin 16384) (k : Fin 1024) : EReal := m ((c : Thread nD τ).loc main_arg1) (ix2 r k)
abbrev W (c : Dev nD) (k j : Fin 2048) : EReal := m ((c : Thread nD τ).loc main_arg2) (ix2 k j)
abbrev X (c : Dev nD) (r : Fin 16384) (k : Fin 2048) : EReal := m ((c : Thread nD τ).loc main_arg3) (ix2 r k)
abbrev M (c : Dev nD) (b : Fin 8) (i : Fin 6) (k : Fin 2048) : EReal := m ((c : Thread nD τ).loc main_arg4) (ix3 b i k)

theorem blk_a (c : Dev nD) (t : Fin cfg0.N) (r k : Fin 1024) : @Eq EReal (iblk m c 0 t (ix2 r k))
    (A m c ⟨t.val / 2 * 1024 + r.val, by have := t_lt t; omega⟩ k) := by
  unfold iblk
  rw [View.read_apply]
  show V m c main_arg0 _ = _
  rw [V_main_arg0]
  refine congrArg (m _) (ix2_of ?_ ?_)
  · show win0_0.index t 0 * 1024 + 1 * r.val = _; rw [(indices t).1.1]; dsimp only; omega
  · show win0_0.index t 1 * 1024 + 1 * k.val = _; rw [(indices t).1.2]; omega

theorem blk_d (c : Dev nD) (t : Fin cfg0.N) (r k : Fin 1024) : @Eq EReal (iblk m c 1 t (ix2 r k))
    (D m c ⟨t.val / 2 * 1024 + r.val, by have := t_lt t; omega⟩ k) := by
  unfold iblk
  rw [View.read_apply]
  show V m c main_arg1 _ = _
  rw [V_main_arg1]
  refine congrArg (m _) (ix2_of ?_ ?_)
  · show win0_1.index t 0 * 1024 + 1 * r.val = _; rw [(indices t).2.1.1]; dsimp only; omega
  · show win0_1.index t 1 * 1024 + 1 * k.val = _; rw [(indices t).2.1.2]; omega

theorem blk_wa (c : Dev nD) (t : Fin cfg0.N) (k j : Fin 1024) : @Eq EReal (iblk m c 2 t (ix2 k j))
    (W m c ⟨k.val, by omega⟩ ⟨t.val % 2 * 1024 + j.val, by omega⟩) := by
  refine Eq.trans ?_ (V0_apply m c _ _)
  unfold iblk
  rw [View.read_apply]
  refine congrArg (V m c main_v0) (ix2_of ?_ ?_)
  · show win0_2.index t 0 * 1024 + 1 * k.val = _; rw [(indices t).2.2.1.1]; dsimp only; omega
  · show win0_2.index t 1 * 1024 + 1 * j.val = _; rw [(indices t).2.2.1.2]; dsimp only; omega

theorem blk_wd (c : Dev nD) (t : Fin cfg0.N) (k j : Fin 1024) : @Eq EReal (iblk m c 3 t (ix2 k j))
    (W m c ⟨1024 + k.val, by omega⟩ ⟨t.val % 2 * 1024 + j.val, by omega⟩) := by
  refine Eq.trans ?_ (V0_apply m c _ _)
  unfold iblk
  rw [View.read_apply]
  refine congrArg (V m c main_v0) (ix2_of ?_ ?_)
  · show win0_3.index t 0 * 1024 + 1 * k.val = _; rw [(indices t).2.2.2.1.1]; dsimp only; omega
  · show win0_3.index t 1 * 1024 + 1 * j.val = _; rw [(indices t).2.2.2.1.2]; dsimp only; omega

theorem blk_x (c : Dev nD) (t : Fin cfg0.N) (r j : Fin 1024) : @Eq EReal (iblk m c 4 t (ix2 r j))
    (X m c ⟨t.val / 2 * 1024 + r.val, by have := t_lt t; omega⟩ ⟨t.val % 2 * 1024 + j.val, by omega⟩) := by
  unfold iblk
  rw [View.read_apply]
  show V m c main_arg3 _ = _
  rw [V_main_arg3]
  refine congrArg (m _) (ix2_of ?_ ?_)
  · show win0_4.index t 0 * 1024 + 1 * r.val = _; rw [(indices t).2.2.2.2.1.1]; dsimp only; omega
  · show win0_4.index t 1 * 1024 + 1 * j.val = _; rw [(indices t).2.2.2.2.1.2]; dsimp only; omega

theorem blk_m (c : Dev nD) (t : Fin cfg0.N) (i : Fin 6) (j : Fin 1024) : @Eq EReal (iblk m c 5 t (ix3 0 i j))
    (M m c ⟨t.val / 4, by have := t_lt t; omega⟩ i ⟨t.val % 2 * 1024 + j.val, by omega⟩) := by
  unfold iblk
  rw [View.read_apply]
  show V m c main_arg4 _ = _
  rw [V_main_arg4]
  refine congrArg (m _) (ix3_of ?_ ?_ ?_)
  · show win0_5.index t 0 * 1 + 1 * 0 = _; rw [(indices t).2.2.2.2.2.1.1]; dsimp only; omega
  · show win0_5.index t 1 * 6 + 1 * i.val = _; rw [(indices t).2.2.2.2.2.1.2.1]; omega
  · show win0_5.index t 2 * 1024 + 1 * j.val = _; rw [(indices t).2.2.2.2.2.1.2.2]; dsimp only; omega

theorem blk_gate (c : Dev nD) (t : Fin cfg0.N) (j : Fin 1024) : @Eq EReal (gate (iblk m c 5 t) (ix3 0 0 j))
    (M m c ⟨t.val / 4, by have := t_lt t; omega⟩ 2 ⟨t.val % 2 * 1024 + j.val, by omega⟩) := by
  refine Eq.trans ?_ (blk_m m c t 2 j)
  rfl

/-- What every point leaves in the output's block. -/
theorem out_eq (c : Dev nD) (t : Fin cfg0.N) :
    (dats m 0 c).after 6 t = k0_pay1 (iblk m c 0 t) (iblk m c 2 t) (iblk m c 1 t) (iblk m c 3 t) (iblk m c 4 t) (gate (iblk m c 5 t)) := by
  rw [after0_6, ← ld2]
  frame_out

/-- The gated out-projection of the arguments as launched. -/
def goal (c : Dev nD) (q : Fin 16384) (j : Fin 2048) : EReal :=
  X m c q j + M m c ⟨q.val / 2048, by omega⟩ 2 j * ((∑ k : Fin 1024, A m c q k * W m c ⟨k.val, by omega⟩ j) + ∑ k : Fin 1024, D m c q k * W m c ⟨1024 + k.val, by omega⟩ j)

/-- A place of a point's block is the out-projection at that place of the array. -/
theorem out_goal (c : Dev nD) (t : Fin cfg0.N) (r j : Fin 1024) :
    @Eq EReal (k0_pay1 (iblk m c 0 t) (iblk m c 2 t) (iblk m c 1 t) (iblk m c 3 t) (iblk m c 4 t) (gate (iblk m c 5 t)) (ix2 r j))
    (goal m c ⟨t.val / 2 * 1024 + r.val, by have := t_lt t; omega⟩ ⟨t.val % 2 * 1024 + j.val, by omega⟩) := by
  have ht := t_lt t
  rw [pay_apply]
  simp only [blk_a, blk_d, blk_wa, blk_wd, blk_x, blk_gate]
  unfold goal
  have e : (t.val / 2 * 1024 + r.val) / 2048 = t.val / 4 := by omega
  simp only [e]

/-- The kernel's array after the run is the out-projection of its arguments. -/
theorem array_eq (c : Dev nD) : (dats m 0 c).arrAt 6 cfg0.N = fun i : S16384x2048.Idx => goal m c (i 0) (i 1) := by
  refine (dats m 0 c).arrAt_eq_of_covers 6 _ (by decide +kernel) fun t hf y => ?_
  blk_simp
  rw [out_eq]
  obtain ⟨r, k, rfl⟩ : ∃ (r : Fin 1024) (k : Fin 1024), y = ix2 r k := ⟨y 0, y 1, ix2_of rfl rfl⟩
  refine (out_goal m c t r k).trans (congrArg₂ (goal m c) (Fin.ext ?_) (Fin.ext ?_))
  · show _ = win0_6.index t 0 * 1024 + 1 * r.val; rw [(indices t).2.2.2.2.2.2.1]; dsimp only; omega
  · show _ = win0_6.index t 1 * 1024 + 1 * k.val; rw [(indices t).2.2.2.2.2.2.2]; dsimp only; omega

end Cert.Kernel5Ideal.Outp
-- ==== Proof.OutRef.lean ====
/- The out-projection reference's result, entry by entry. -/
module

public import proofs.«01_k».proof.Proof.Gen.Reference5Ideal.Run
public import proofs.«01_k».proof.Proof.ModMath
public import Idealize.ShloMosaic.Lib.KernelVsHost

@[expose] public section
set_option maxRecDepth 16384
noncomputable section
namespace Cert.Reference5Ideal.Outp
open Cert.Reference5Ideal Cert.Reference5Ideal.Gen Cert.Reference5Ideal.Value Idealize.ShloMosaic Idealize.ShloMosaic.TcCoe Idealize.SL.Sem
open Cert.Modulated

/-- The two heads' rows side by side. -/
def both (a d : Vec Ideal S16384x1024 .bf16) : FVec Ideal S8x2048x2048 .f32 :=
  concatenate S8x2048x2048 2 [⟨S8x2048x1024, (shapeCast _ (extf (F := Ideal) .f32 a bitsLt_bf16_f32) shapeCasts_S16384x1024_S8x2048x1024)⟩, ⟨S8x2048x1024, (shapeCast _ (extf (F := Ideal) .f32 d bitsLt_bf16_f32) shapeCasts_S16384x1024_S8x2048x1024)⟩] concatenates_S8x2048x1024_S8x2048x1024_S8x2048x2048_d2

theorem both_left (a d : Vec Ideal S16384x1024 .bf16) (b : Fin 8) (p : Fin 2048) (k : Fin 1024) :
    @Eq EReal (both a d (ix3 b p ⟨k.val, by omega⟩)) (a (ix2 ⟨b.val * 2048 + p.val, by omega⟩ k)) := by
  pointwise [both]

theorem both_right (a d : Vec Ideal S16384x1024 .bf16) (b : Fin 8) (p : Fin 2048) (k : Fin 1024) :
    @Eq EReal (both a d (ix3 b p ⟨1024 + k.val, by omega⟩)) (d (ix2 ⟨b.val * 2048 + p.val, by omega⟩ k)) := by
  pointwise [both]

/-- The result of the rows side by side. -/
def last (h : FVec Ideal S8x2048x2048 .f32) (w : Vec Ideal S2048x2048 .f32) (x : Vec Ideal S16384x2048 .f32) (md : Vec Ideal S8x6x2048 .f32) : FVec Ideal S16384x2048 .f32 :=
  shapeCast S16384x2048 (addf (shapeCast _ x shapeCasts_S16384x2048_S8x2048x2048) (mulf (broadcastInDim S8x2048x2048 ![0, 1, 2] bcast_S8x1x2048_S8x2048x2048_0_1_2 (extractStridedSlice S8x1x2048 ![0, 2, 0] md slices_S8x6x2048_S8x1x2048_0_2_0)) (Host.dotGeneral (φ₁ := .f32) (φ₂ := .f32) dot_S8x2048x2048_S2048x2048_S8x2048x2048_2_0_01_1_n_n none h w))) shapeCasts_S8x2048x2048_S16384x2048

theorem last_apply (h : FVec Ideal S8x2048x2048 .f32) (w : Vec Ideal S2048x2048 .f32) (x : Vec Ideal S16384x2048 .f32) (md : Vec Ideal S8x6x2048 .f32) (r : Fin 16384) (j : Fin 2048) :
    @Eq EReal (last h w x md (ix2 r j))
    ((x (ix2 r j) : EReal) + (md (ix3 ⟨r.val / 2048, by omega⟩ 2 j) : EReal) * ∑ k, (h (ix3 ⟨r.val / 2048, by omega⟩ ⟨r.val % 2048, by omega⟩ k) : EReal) * (w (ix2 k j) : EReal)) := by
  pointwise [last]

/-- A sum over the joined channels, in its two halves. -/
theorem sum_halves (f : Fin 2048 → EReal) : ∑ k, f k = (∑ k : Fin 1024, f ⟨k.val, by omega⟩) + ∑ k : Fin 1024, f ⟨1024 + k.val, by omega⟩ :=
  Fin.sum_univ_add (a := 1024) (b := 1024) f

/-- An entry of the result is the gated out-projection of the arguments. -/
theorem put (a d : Vec Ideal S16384x1024 .bf16) (w : Vec Ideal S2048x2048 .f32) (x : Vec Ideal S16384x2048 .f32) (md : Vec Ideal S8x6x2048 .f32) (r : Fin 16384) (j : Fin 2048) :
    @Eq EReal (last (both a d) w x md (ix2 r j))
    ((x (ix2 r j) : EReal) + (md (ix3 ⟨r.val / 2048, by omega⟩ 2 j) : EReal) * ((∑ k : Fin 1024, (a (ix2 r k) : EReal) * (w (ix2 ⟨k.val, by omega⟩ j) : EReal)) + ∑ k : Fin 1024, (d (ix2 r k) : EReal) * (w (ix2 ⟨1024 + k.val, by omega⟩ j) : EReal))) := by
  rw [last_apply, sum_halves]
  simp only [both_left, both_right]
  have e : (⟨r.val / 2048 * 2048 + r.val % 2048, by omega⟩ : Fin 16384) = r := Fin.ext (by show r.val / 2048 * 2048 + r.val % 2048 = r.val; omega)
  simp only [e]

end Cert.Reference5Ideal.Outp
-- ==== Proof.OutClaims.lean ====
/- The claims about the out-projection call. -/
module

public import proofs.«01_k».proof.Defs
public import proofs.«01_k».proof.Proof.OutArray
public import proofs.«01_k».proof.Proof.OutRef
public import proofs.«01_k».proof.Proof.Gen.Kernel5.Frame
public import Idealize.ShloMosaic.Lib.Claim

@[expose] public section
set_option maxRecDepth 16384
noncomputable section
namespace Cert.Proof.Outp
open Idealize.ShloMosaic Idealize.ShloMosaic.TcCoe Idealize.SL.Sem
open Cert.Modulated

/-- The reference runs to quiescence, its arguments unchanged. -/
theorem frame_r : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- Over the extended reals the kernel and the reference end with the same array: the gated out-projection added to the carried rows. -/
theorem algebraic : Cert.algebraic_Kernel5Ideal_Reference5Ideal := by
  intro m g m' g' _ hag
  refine ⟨fun c => fun i : Cert.Kernel5Ideal.S16384x2048.Idx => Cert.Kernel5Ideal.Outp.goal m c (i 0) (i 1), ?_, ?_⟩
  · exact (θ_run Cert.Kernel5Ideal.defs _ _).mono (fun r h c => ⟨((h c).1).trans (Cert.Kernel5Ideal.Outp.array_eq m c), (h c).2⟩)
      (Cert.Kernel5Ideal.Value.run_blocks (F := Ideal) m g)
  · refine (θ_run Cert.Reference5Ideal.defs _ _).mono (fun r h c => ⟨((h c).1).trans (funext fun y => ?_), (h c).2⟩) (Cert.Reference5Ideal.Value.run (F := Ideal) m' g')
    obtain ⟨h0, h1, h2, h3, h4⟩ := hag c
    obtain ⟨p, q, rfl⟩ : ∃ (p : Fin 16384) (q : Fin 2048), y = ix2 p q := ⟨y 0, y 1, ix2_of rfl rfl⟩
    refine (Cert.Reference5Ideal.Outp.put (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4)) p q).trans ?_
    rw [h0, h1, h2, h3, h4]
    rfl

end Cert.Proof.Outp
-- ==== Proof.ConvMath.lean ====
/- The gated short convolution of a column and the norm of a group of channels, over the extended reals. -/
module

public import proofs.«01_k».proof.Proof.ModMath

@[expose] public section
noncomputable section
namespace Cert.Modulated
open Idealize.ShloMosaic

/-- A column's entry before a position, zero before the first. -/
def before (f : Fin 2048 → EReal) (r : Fin 2048) : EReal := if r.val = 0 then 0 else f ⟨r.val - 1, by omega⟩

/-- A column's entry after a position, zero after the last. -/
def beyond (f : Fin 2048 → EReal) (r : Fin 2048) : EReal := if h : r.val = 2047 then 0 else f ⟨r.val + 1, by omega⟩

/-- The three taps of the convolution at a position. -/
def taps (f : Fin 2048 → EReal) (w0 w1 w2 : EReal) (r : Fin 2048) : EReal := before f r * w0 + f r * w1 + beyond f r * w2

/-- A channel over its group's root mean square, times its gain. -/
def headed (y : Fin 128 → EReal) (g : EReal) (j : Fin 128) : EReal :=
  y j * Ideal.rsqrt (Ideal.div (∑ e, y e * y e) (Ideal.ofBits FTy.f32 1124073472#32) + Ideal.ofBits FTy.f32 897988541#32) * g

end Cert.Modulated
-- ==== Proof.ConvBlock.lean ====
/- What the short convolution's kernel leaves in its output block. -/
module

public import proofs.«01_k».proof.Proof.Gen.Kernel6Ideal.Value
public import proofs.«01_k».proof.Proof.ConvMath
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel6Ideal.Conv
open Cert.Kernel6Ideal Cert.Kernel6Ideal.Gen Idealize.ShloMosaic Idealize.ShloMosaic.TcCoe Idealize.SL.Sem
open Cert.Modulated

/-- The rows moved down by one, zero in the first. -/
def down (u : FVec Ideal S2048x128 .f32) : FVec Ideal S2048x128 .f32 :=
  select (cmpi .eq (iota .tc S2048x128 32 [0] iota_S2048x128_d0_w32) (broadcast S2048x128 0#32)) (broadcast S2048x128 (Scalar.ofBits .f32 0x00000000#32)) (dynamicRotate 0 1#32 none u rotates_S2048x128_d0)

/-- The rows moved up by one, zero in the last. -/
def up (u : FVec Ideal S2048x128 .f32) : FVec Ideal S2048x128 .f32 :=
  select (cmpi .eq (iota .tc S2048x128 32 [0] iota_S2048x128_d0_w32) (broadcast S2048x128 2047#32)) (broadcast S2048x128 (Scalar.ofBits .f32 0x00000000#32)) (dynamicRotate 0 2047#32 none u rotates_S2048x128_d0)

theorem down_apply (u : FVec Ideal S2048x128 .f32) (r : Fin 2048) (j : Fin 128) : @Eq EReal (down u (ix2 r j)) (before (fun p => u (ix2 p j)) r) := by
  pointwise [down]
  unfold before
  rw [WordCmp.cmpi_eq_ofNat (by omega) (by omega), WordCmp.select_ofBool]
  by_cases h : r.val = 0
  · simp only [h, decide_true, if_true]
  · simp only [h, decide_false, if_false, Bool.false_eq_true]
    have e : (r.val + 2048 - 1) % 2048 = r.val - 1 := by omega
    simp only [e]

theorem up_apply (u : FVec Ideal S2048x128 .f32) (r : Fin 2048) (j : Fin 128) : @Eq EReal (up u (ix2 r j)) (beyond (fun p => u (ix2 p j)) r) := by
  pointwise [up]
  unfold beyond
  rw [WordCmp.cmpi_eq_ofNat (by omega) (by omega), WordCmp.select_ofBool]
  by_cases h : r.val = 2047
  · simp only [h, decide_true, if_true, dif_pos]
  · simp only [h, decide_false, if_false, Bool.false_eq_true, dif_neg, not_false_eq_true]
    have e : (r.val + 2048 - 2047) % 2048 = r.val + 1 := by omega
    simp only [e]

/-- The product the convolution runs over. -/
def prod (v0 v2 : Vec Ideal S2048x128 .bf16) : FVec Ideal S2048x128 .f32 := mulf (F := Ideal) (extf .f32 v0 bitsLt_bf16_f32) (extf .f32 v2 bitsLt_bf16_f32)

theorem pay2_eq (v0 v2 : Vec Ideal S2048x128 .bf16) (a b d : Vec Ideal S1x128 .f32) (v27 : Vec Ideal S2048x128 .bf16) : k0_pay2 v0 v2 a b d v27 =
    mulf (F := Ideal) (extf .f32 v27 bitsLt_bf16_f32) (addf (addf (mulf (down (prod v0 v2)) (broadcastTo S2048x128 a broadcasts_S1x128_S2048x128)) (mulf (prod v0 v2) (broadcastTo S2048x128 b broadcasts_S1x128_S2048x128))) (mulf (up (prod v0 v2)) (broadcastTo S2048x128 d broadcasts_S1x128_S2048x128))) := rfl

/-- The gated convolution at a place. -/
def gated (v0 v2 : Vec Ideal S2048x128 .bf16) (a b d : Vec Ideal S1x128 .f32) (v27 : Vec Ideal S2048x128 .bf16) (r : Fin 2048) (j : Fin 128) : EReal :=
  (v27 (ix2 r j) : EReal) * taps (fun p => (v0 (ix2 p j) : EReal) * (v2 (ix2 p j) : EReal)) (a (ix2 0 j)) (b (ix2 0 j)) (d (ix2 0 j)) r

theorem prod_apply (v0 v2 : Vec Ideal S2048x128 .bf16) (r : Fin 2048) (j : Fin 128) : @Eq EReal (prod v0 v2 (ix2 r j)) ((v0 (ix2 r j) : EReal) * (v2 (ix2 r j) : EReal)) := by
  pointwise [prod]

theorem pay2_apply (v0 v2 : Vec Ideal S2048x128 .bf16) (a b d : Vec Ideal S1x128 .f32) (v27 : Vec Ideal S2048x128 .bf16) (r : Fin 2048) (j : Fin 128) :
    @Eq EReal (k0_pay2 v0 v2 a b d v27 (ix2 r j)) (gated v0 v2 a b d v27 r j) := by
  rw [pay2_eq]
  pointwise
  rw [down_apply, up_apply, prod_apply]
  simp only [prod_apply]
  rfl

/-- The norm of a block and its gain. -/
theorem pay1_apply (y : FVec Ideal S2048x128 .f32) (q : FVec Ideal S2048x1 .f32) (g : Vec Ideal S1x128 .f32) (r : Fin 2048) (j : Fin 128) :
    @Eq EReal (k0_pay1 y q g (ix2 r j)) ((y (ix2 r j) : EReal) * Ideal.rsqrt (q (ix2 r 0)) * (g (ix2 0 j) : EReal)) := by
  pointwise [k0_pay1]

theorem pay3_apply (v0 v2 : Vec Ideal S2048x128 .bf16) (a b d : Vec Ideal S1x128 .f32) (v27 : Vec Ideal S2048x128 .bf16) (r : Fin 2048) :
    @Eq EReal (k0_pay3 v0 v2 a b d v27 (ix2 r 0)) (Ideal.div (∑ e, gated v0 v2 a b d v27 r e * gated v0 v2 a b d v27 r e) (Ideal.ofBits FTy.f32 1124073472#32) + Ideal.ofBits FTy.f32 897988541#32) := by
  pointwise [k0_pay3]
  simp only [pay2_apply]

/-- The stored block at a place. -/
theorem stored (v0 v2 : Vec Ideal S2048x128 .bf16) (a b d : Vec Ideal S1x128 .f32) (v27 : Vec Ideal S2048x128 .bf16) (g : Vec Ideal S1x128 .f32) (r : Fin 2048) (j : Fin 128) :
    @Eq EReal (k0_pay1 (k0_pay2 v0 v2 a b d v27) (k0_pay3 v0 v2 a b d v27) g (ix2 r j)) (headed (gated v0 v2 a b d v27 r) (g (ix2 0 j)) j) := by
  rw [pay1_apply, pay2_apply, pay3_apply]
  rfl

end Cert.Kernel6Ideal.Conv
-- ==== Proof.ConvArray.lean ====
/- The array the short convolution call ends with. -/
module

public import proofs.«01_k».proof.Proof.ConvBlock

@[expose] public section
set_option maxRecDepth 16384
noncomputable section
namespace Cert.Kernel6Ideal.Conv
open Cert.Kernel6Ideal Cert.Kernel6Ideal.Gen Idealize.ShloMosaic Idealize.ShloMosaic.TcCoe Idealize.SL.Sem
open Cert.Modulated
variable (m : (ℓ : Loc nD τ sig) → Buf (Elt Ideal) ℓ)

/-- The gain as staged is the argument. -/
theorem V0_apply (c : Dev nD) (d : Fin 1024) : @Eq EReal (V m c main_v0 (ix2 0 d)) (m ((c : Thread nD τ).loc main_arg2) (ix1 d)) := by
  unfold V
  after_reads_at

/-- Which blocks a point works on: point `t` is sequence `t / 8`, group of channels `t % 8`. -/
theorem indices : ∀ t : Fin cfg0.N,
    (win0_0.index t 0 = t.val / 8 ∧ win0_0.index t 1 = 12 + t.val % 8)
    ∧ (win0_1.index t 0 = t.val / 8 ∧ win0_1.index t 1 = 20 + t.val % 8)
    ∧ (win0_2.index t 0 = t.val / 8 ∧ win0_2.index t 1 = 28 + t.val % 8)
    ∧ (win0_3.index t 0 = 0 ∧ win0_3.index t 1 = t.val % 8)
    ∧ (win0_4.index t 0 = 0 ∧ win0_4.index t 1 = t.val % 8)
    ∧ (win0_5.index t 0 = t.val / 8 ∧ win0_5.index t 1 = t.val % 8) :=
  (by decide +kernel : ∀ t : Fin grid0.N, _)

theorem t_lt (t : Fin cfg0.N) : t.val < 64 := lt_of_lt_of_eq t.isLt N_0

/-- The arguments by coordinates. -/
abbrev X (c : Dev nD) (r : Fin 16384) (k : Fin 4608) : EReal := m ((c : Thread nD τ).loc main_arg0) (ix2 r k)
abbrev W (c : Dev nD) (i : Fin 3) (k : Fin 1024) : EReal := m ((c : Thread nD τ).loc main_arg1) (ix2 i k)
abbrev G (c : Dev nD) (k : Fin 1024) : EReal := m ((c : Thread nD τ).loc main_arg2) (ix1 k)

theorem blk_h (c : Dev nD) (t : Fin cfg0.N) (r : Fin 2048) (k : Fin 128) : @Eq EReal (iblk m c 0 t (ix2 r k))
    (X m c ⟨t.val / 8 * 2048 + r.val, by have := t_lt t; omega⟩ ⟨1536 + (t.val % 8 * 128 + k.val), by omega⟩) := by
  unfold iblk
  rw [View.read_apply]
  show V m c main_arg0 _ = _
  rw [V_main_arg0]
  refine congrArg (m _) (ix2_of ?_ ?_)
  · show win0_0.index t 0 * 2048 + 1 * r.val = _; rw [(indices t).1.1]; dsimp only; omega
  · show win0_0.index t 1 * 128 + 1 * k.val = _; rw [(indices t).1.2]; dsimp only; omega

theorem blk_b (c : Dev nD) (t : Fin cfg0.N) (r : Fin 2048) (k : Fin 128) : @Eq EReal (iblk m c 1 t (ix2 r k))
    (X m c ⟨t.val / 8 * 2048 + r.val, by have := t_lt t; omega⟩ ⟨1536 + (1024 + (t.val % 8 * 128 + k.val)), by omega⟩) := by
  unfold iblk
  rw [View.read_apply]
  show V m c main_arg0 _ = _
  rw [V_main_arg0]
  refine congrArg (m _) (ix2_of ?_ ?_)
  · show win0_1.index t 0 * 2048 + 1 * r.val = _; rw [(indices t).2.1.1]; dsimp only; omega
  · show win0_1.index t 1 * 128 + 1 * k.val = _; rw [(indices t).2.1.2]; dsimp only; omega

theorem blk_c (c : Dev nD) (t : Fin cfg0.N) (r : Fin 2048) (k : Fin 128) : @Eq EReal (iblk m c 2 t (ix2 r k))
    (X m c ⟨t.val / 8 * 2048 + r.val, by have := t_lt t; omega⟩ ⟨1536 + (2048 + (t.val % 8 * 128 + k.val)), by omega⟩) := by
  unfold iblk
  rw [View.read_apply]
  show V m c main_arg0 _ = _
  rw [V_main_arg0]
  refine congrArg (m _) (ix2_of ?_ ?_)
  · show win0_2.index t 0 * 2048 + 1 * r.val = _; rw [(indices t).2.2.1.1]; dsimp only; omega
  · show win0_2.index t 1 * 128 + 1 * k.val = _; rw [(indices t).2.2.1.2]; dsimp only; omega

theorem blk_w (c : Dev nD) (t : Fin cfg0.N) (i : Fin 3) (k : Fin 128) : @Eq EReal (iblk m c 3 t (ix2 i k))
    (W m c i ⟨t.val % 8 * 128 + k.val, by omega⟩) := by
  unfold iblk
  rw [View.read_apply]
  show V m c main_arg1 _ = _
  rw [V_main_arg1]
  refine congrArg (m _) (ix2_of ?_ ?_)
  · show win0_3.index t 0 * 3 + 1 * i.val = _; rw [(indices t).2.2.2.1.1]; omega
  · show win0_3.index t 1 * 128 + 1 * k.val = _; rw [(indices t).2.2.2.1.2]; dsimp only; omega

theorem blk_g (c : Dev nD) (t : Fin cfg0.N) (k : Fin 128) : @Eq EReal (iblk m c 4 t (ix2 0 k)) (G m c ⟨t.val % 8 * 128 + k.val, by omega⟩) := by
  refine Eq.trans ?_ (V0_apply m c _)
  unfold iblk
  rw [View.read_apply]
  refine congrArg (V m c main_v0) (ix2_of ?_ ?_)
  · show win0_4.index t 0 * 1 + 1 * 0 = _; rw [(indices t).2.2.2.2.1.1]; rfl
  · show win0_4.index t 1 * 128 + 1 * k.val = _; rw [(indices t).2.2.2.2.1.2]; dsimp only; omega

/-- One tap's row of a block of weights. -/
def tap (w : Vec Ideal S3x128 .f32) (i : Fin 3) : Vec Ideal S1x128 .f32 := fun y => w (ix2 i (y 1))

theorem tap0 (w : Vec Ideal S3x128 .f32) : View.ld w (Rect.unit (s := S3x128) ![0, 0] S1x128.size inb_S3x128_S1x128_0_0) = tap w 0 := by
  funext y
  refine congrArg w (funext fun (a : Fin 2) => ?_)
  exact match a with
  | 0 => Fin.ext (by have := (y 0).isLt; show 0 + 1 * (y 0).val = 0; have h : (y 0).val < 1 := this; omega)
  | 1 => Fin.ext (by show 0 + 1 * (y 1).val = (y 1).val; omega)

theorem tap1 (w : Vec Ideal S3x128 .f32) : View.ld w (Rect.unit (s := S3x128) ![1, 0] S1x128.size inb_S3x128_S1x128_1_0) = tap w 1 := by
  funext y
  refine congrArg w (funext fun (a : Fin 2) => ?_)
  exact match a with
  | 0 => Fin.ext (by have := (y 0).isLt; show 1 + 1 * (y 0).val = 1; have h : (y 0).val < 1 := this; omega)
  | 1 => Fin.ext (by show 0 + 1 * (y 1).val = (y 1).val; omega)

theorem tap2 (w : Vec Ideal S3x128 .f32) : View.ld w (Rect.unit (s := S3x128) ![2, 0] S1x128.size inb_S3x128_S1x128_2_0) = tap w 2 := by
  funext y
  refine congrArg w (funext fun (a : Fin 2) => ?_)
  exact match a with
  | 0 => Fin.ext (by have := (y 0).isLt; show 2 + 1 * (y 0).val = 2; have h : (y 0).val < 1 := this; omega)
  | 1 => Fin.ext (by show 0 + 1 * (y 1).val = (y 1).val; omega)

theorem blk_tap (c : Dev nD) (t : Fin cfg0.N) (i : Fin 3) (k : Fin 128) : @Eq EReal (tap (iblk m c 3 t) i (ix2 0 k)) (W m c i ⟨t.val % 8 * 128 + k.val, by omega⟩) := by
  refine Eq.trans ?_ (blk_w m c t i k)
  rfl

/-- What every point leaves in the output's block. -/
theorem out_eq (c : Dev nD) (t : Fin cfg0.N) : (dats m 0 c).after 5 t =
    k0_pay1 (k0_pay2 (iblk m c 2 t) (iblk m c 0 t) (tap (iblk m c 3 t) 0) (tap (iblk m c 3 t) 1) (tap (iblk m c 3 t) 2) (iblk m c 1 t))
      (k0_pay3 (iblk m c 2 t) (iblk m c 0 t) (tap (iblk m c 3 t) 0) (tap (iblk m c 3 t) 1) (tap (iblk m c 3 t) 2) (iblk m c 1 t)) (iblk m c 4 t) := by
  rw [after0_5, ← tap0, ← tap1, ← tap2]
  frame_out

/-- The gated short convolution of the arguments as launched, each group of channels normalized. -/
def goal (c : Dev nD) (r : Fin 16384) (q : Fin 1024) : EReal :=
  headed (fun e => X m c r ⟨1536 + (1024 + (q.val / 128 * 128 + e.val)), by omega⟩ * taps (fun p => X m c ⟨r.val / 2048 * 2048 + p.val, by omega⟩ ⟨1536 + (2048 + (q.val / 128 * 128 + e.val)), by omega⟩ * X m c ⟨r.val / 2048 * 2048 + p.val, by omega⟩ ⟨1536 + (q.val / 128 * 128 + e.val), by omega⟩)
    (W m c 0 ⟨q.val / 128 * 128 + e.val, by omega⟩) (W m c 1 ⟨q.val / 128 * 128 + e.val, by omega⟩) (W m c 2 ⟨q.val / 128 * 128 + e.val, by omega⟩) ⟨r.val % 2048, by omega⟩) (G m c q) ⟨q.val % 128, by omega⟩

/-- A place of a point's block is the convolution at that place of the array. -/
theorem out_goal (c : Dev nD) (t : Fin cfg0.N) (r : Fin 2048) (j : Fin 128) :
    @Eq EReal (k0_pay1 (k0_pay2 (iblk m c 2 t) (iblk m c 0 t) (tap (iblk m c 3 t) 0) (tap (iblk m c 3 t) 1) (tap (iblk m c 3 t) 2) (iblk m c 1 t))
      (k0_pay3 (iblk m c 2 t) (iblk m c 0 t) (tap (iblk m c 3 t) 0) (tap (iblk m c 3 t) 1) (tap (iblk m c 3 t) 2) (iblk m c 1 t)) (iblk m c 4 t) (ix2 r j))
    (goal m c ⟨t.val / 8 * 2048 + r.val, by have := t_lt t; omega⟩ ⟨t.val % 8 * 128 + j.val, by omega⟩) := by
  have ht := t_lt t
  rw [stored]
  unfold gated goal
  simp only [blk_h, blk_b, blk_c, blk_g, blk_tap]
  have e1 : (t.val / 8 * 2048 + r.val) / 2048 = t.val / 8 := by omega
  have e2 : (t.val / 8 * 2048 + r.val) % 2048 = r.val := by omega
  have e3 : (t.val % 8 * 128 + j.val) / 128 = t.val % 8 := by omega
  have e4 : (t.val % 8 * 128 + j.val) % 128 = j.val := by omega
  simp only [e1, e2, e3, e4]

/-- The kernel's array after the run is the convolution of its arguments. -/
theorem array_eq (c : Dev nD) : (dats m 0 c).arrAt 5 cfg0.N = fun i : S16384x1024.Idx => goal m c (i 0) (i 1) := by
  refine (dats m 0 c).arrAt_eq_of_covers 5 _ (by decide +kernel) fun t hf y => ?_
  blk_simp
  rw [out_eq]
  obtain ⟨r, k, rfl⟩ : ∃ (r : Fin 2048) (k : Fin 128), y = ix2 r k := ⟨y 0, y 1, ix2_of rfl rfl⟩
  refine (out_goal m c t r k).trans (congrArg₂ (goal m c) (Fin.ext ?_) (Fin.ext ?_))
  · show _ = win0_5.index t 0 * 2048 + 1 * r.val; rw [(indices t).2.2.2.2.2.1]; dsimp only; omega
  · show _ = win0_5.index t 1 * 128 + 1 * k.val; rw [(indices t).2.2.2.2.2.2]; dsimp only; omega

end Cert.Kernel6Ideal.Conv
-- ==== Proof.ConvRef.lean ====
/- The short convolution reference's result, entry by entry. -/
module

public import proofs.«01_k».proof.Proof.Gen.Reference6Ideal.Run
public import proofs.«01_k».proof.Proof.ConvMath
public import Idealize.ShloMosaic.Lib.KernelVsHost

@[expose] public section
set_option maxRecDepth 16384
noncomputable section
namespace Cert.Reference6Ideal.Conv
open Cert.Reference6Ideal Cert.Reference6Ideal.Gen Cert.Reference6Ideal.Value Idealize.ShloMosaic Idealize.ShloMosaic.TcCoe Idealize.SL.Sem
open Cert.Modulated

variable (x : Vec Ideal S16384x4608 .bf16) (w : Vec Ideal S3x1024 .f32) (g : Vec Ideal S1024 .f32)

/-- The three gates' channels of the projection. -/
def wide : FVec Ideal S8x2048x3072 .f32 :=
  extractStridedSlice S8x2048x3072 ![0, 0, 1536] (shapeCast _ (extf (F := Ideal) .f32 x bitsLt_bf16_f32) shapeCasts_S16384x4608_S8x2048x4608) slices_S8x2048x4608_S8x2048x3072_0_0_1536

theorem wide_apply (b : Fin 8) (p : Fin 2048) (k : Fin 3072) : @Eq EReal (wide x (ix3 b p k)) (x (ix2 ⟨b.val * 2048 + p.val, by omega⟩ ⟨1536 + k.val, by omega⟩)) := by
  pointwise [wide]

/-- The product the convolution runs over. -/
def prod : FVec Ideal S8x2048x1024 .f32 :=
  mulf (extractStridedSlice S8x2048x1024 ![0, 0, 2048] (wide x) slices_S8x2048x3072_S8x2048x1024_0_0_2048) (extractStridedSlice S8x2048x1024 ![0, 0, 0] (wide x) slices_S8x2048x3072_S8x2048x1024_0_0_0)

theorem prod_apply (b : Fin 8) (p : Fin 2048) (k : Fin 1024) : @Eq EReal (prod x (ix3 b p k))
    ((wide x (ix3 b p ⟨2048 + k.val, by omega⟩) : EReal) * (wide x (ix3 b p ⟨k.val, by omega⟩) : EReal)) := by
  pointwise [prod]

/-- It with a row of zeros at either end. -/
def padded (u : FVec Ideal S8x2048x1024 .f32) : FVec Ideal S8x2050x1024 .f32 :=
  pad S8x2050x1024 ![0, 1, 0] ![0, 1, 0] ![0, 0, 0] u (sitofp .f32 (constantI S_ 32 0#32)) pads_S8x2048x1024_S8x2050x1024_000_110_000 h_S_

/-- The padding's value is zero. -/
theorem zero_eq : @Eq EReal (FloatOps.sitofp (F := Ideal) FTy.f32 (0#32)) 0 := by
  show (((0#32 : BitVec 32).toInt : ℝ) : EReal) = 0
  simp

theorem padded_before (u : FVec Ideal S8x2048x1024 .f32) (b : Fin 8) (p : Fin 2048) (k : Fin 1024) : @Eq EReal (padded u (ix3 b ⟨p.val, by omega⟩ k)) (before (fun r => u (ix3 b r k)) p) := by
  pointwise [padded]
  unfold before
  by_cases h : p.val = 0
  · rw [dif_neg (by omega), if_pos h, zero_eq]
  · rw [dif_pos (by omega), if_neg h]

theorem padded_here (u : FVec Ideal S8x2048x1024 .f32) (b : Fin 8) (p : Fin 2048) (k : Fin 1024) : @Eq EReal (padded u (ix3 b ⟨1 + p.val, by omega⟩ k)) (u (ix3 b p k)) := by
  pointwise [padded]

theorem padded_beyond (u : FVec Ideal S8x2048x1024 .f32) (b : Fin 8) (p : Fin 2048) (k : Fin 1024) : @Eq EReal (padded u (ix3 b ⟨2 + p.val, by omega⟩ k)) (beyond (fun r => u (ix3 b r k)) p) := by
  pointwise [padded]
  unfold beyond
  by_cases h : p.val = 2047
  · rw [dif_neg (by omega), dif_pos h, zero_eq]
  · rw [dif_pos (by omega), dif_neg h]
    have e : 2 + p.val - 1 = p.val + 1 := by omega
    simp only [e]

/-- One tap's weights along the channels. -/
def conv (u : FVec Ideal S8x2050x1024 .f32) : FVec Ideal S8x2048x1024 .f32 :=
  addf (addf (mulf (extractStridedSlice S8x2048x1024 ![0, 0, 0] u slices_S8x2050x1024_S8x2048x1024_0_0_0) (broadcastInDim S8x2048x1024 ![0, 1, 2] bcast_S1x1x1024_S8x2048x1024_0_1_2 (broadcastInDim S1x1x1024 ![2] bcast_S1024_S1x1x1024_2 (shapeCast _ (extractStridedSlice S1x1024 ![0, 0] w slices_S3x1024_S1x1024_0_0) shapeCasts_S1x1024_S1024)))) (mulf (extractStridedSlice S8x2048x1024 ![0, 1, 0] u slices_S8x2050x1024_S8x2048x1024_0_1_0) (broadcastInDim S8x2048x1024 ![0, 1, 2] bcast_S1x1x1024_S8x2048x1024_0_1_2 (broadcastInDim S1x1x1024 ![2] bcast_S1024_S1x1x1024_2 (shapeCast _ (extractStridedSlice S1x1024 ![1, 0] w slices_S3x1024_S1x1024_1_0) shapeCasts_S1x1024_S1024))))) (mulf (extractStridedSlice S8x2048x1024 ![0, 2, 0] u slices_S8x2050x1024_S8x2048x1024_0_2_0) (broadcastInDim S8x2048x1024 ![0, 1, 2] bcast_S1x1x1024_S8x2048x1024_0_1_2 (broadcastInDim S1x1x1024 ![2] bcast_S1024_S1x1x1024_2 (shapeCast _ (extractStridedSlice S1x1024 ![2, 0] w slices_S3x1024_S1x1024_2_0) shapeCasts_S1x1024_S1024))))

theorem conv_apply (u : FVec Ideal S8x2050x1024 .f32) (b : Fin 8) (p : Fin 2048) (k : Fin 1024) : @Eq EReal (conv w u (ix3 b p k))
    ((u (ix3 b ⟨p.val, by omega⟩ k) : EReal) * (w (ix2 0 k) : EReal) + (u (ix3 b ⟨1 + p.val, by omega⟩ k) : EReal) * (w (ix2 1 k) : EReal) + (u (ix3 b ⟨2 + p.val, by omega⟩ k) : EReal) * (w (ix2 2 k) : EReal)) := by
  pointwise [conv]

/-- The gated convolution. -/
def gated : FVec Ideal S8x2048x1024 .f32 :=
  mulf (extractStridedSlice S8x2048x1024 ![0, 0, 1024] (wide x) slices_S8x2048x3072_S8x2048x1024_0_0_1024) (conv w (padded (prod x)))

theorem gated_apply (b : Fin 8) (p : Fin 2048) (k : Fin 1024) : @Eq EReal (gated x w (ix3 b p k))
    ((x (ix2 ⟨b.val * 2048 + p.val, by omega⟩ ⟨1536 + (1024 + k.val), by omega⟩) : EReal) * taps (fun r => (x (ix2 ⟨b.val * 2048 + r.val, by omega⟩ ⟨1536 + (2048 + k.val), by omega⟩) : EReal) * (x (ix2 ⟨b.val * 2048 + r.val, by omega⟩ ⟨1536 + k.val, by omega⟩) : EReal)) (w (ix2 0 k)) (w (ix2 1 k)) (w (ix2 2 k)) p) := by
  pointwise [gated]
  rw [conv_apply, padded_before, padded_here, padded_beyond]
  simp only [prod_apply, wide_apply]
  rfl

/-- The normalized result of the gated convolution. -/
def last (y : FVec Ideal S8x2048x1024 .f32) : FVec Ideal S16384x1024 .bf16 :=
  truncf .bf16 (shapeCast S16384x1024 (mulf (shapeCast S8x2048x1024 (mulf (mulf (shapeCast S8x2048x8x128 y shapeCasts_S8x2048x1024_S8x2048x8x128) (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf (shapeCast S8x2048x8x128 y shapeCasts_S8x2048x1024_S8x2048x8x128) (shapeCast S8x2048x8x128 y shapeCasts_S8x2048x1024_S8x2048x8x128)) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (broadcastInDim S128 ![] bcast_S_S128 (constant S_ .f32 0x3F800000#32))))) shapeCasts_S8x2048x8x128_S8x2048x1024) (broadcastInDim S8x2048x1024 ![0, 1, 2] bcast_S1x1x1024_S8x2048x1024_0_1_2 (broadcastInDim S1x1x1024 ![2] bcast_S1024_S1x1x1024_2 g))) shapeCasts_S8x2048x1024_S16384x1024) bitsLt_bf16_f32

theorem last_apply (y : FVec Ideal S8x2048x1024 .f32) (r : Fin 16384) (q : Fin 1024) : @Eq EReal (last g y (ix2 r q))
    (headed (fun e => y (ix3 ⟨r.val / 2048, by omega⟩ ⟨r.val % 2048, by omega⟩ ⟨q.val / 128 * 128 + e.val, by omega⟩)) (g (ix1 q)) ⟨q.val % 128, by omega⟩) := by
  pointwise [last]
  unfold headed
  have e : (⟨q.val / 128 * 128 + q.val % 128, by omega⟩ : Fin 1024) = q := Fin.ext (by show q.val / 128 * 128 + q.val % 128 = q.val; omega)
  simp only [e]

/-- The result is the two together. -/
theorem res_eq (m : (ℓ : Loc nD τ sig) → Buf (Elt Ideal) ℓ) (c : Dev nD) : res_out0 (F := Ideal) m c =
    last (m ((c.tc : Thread nD τ).loc main_arg2)) (gated (m ((c.tc : Thread nD τ).loc main_arg0)) (m ((c.tc : Thread nD τ).loc main_arg1))) := rfl

/-- An entry of the result, from the arguments. -/
theorem put (r : Fin 16384) (q : Fin 1024) : @Eq EReal (last g (gated x w) (ix2 r q))
    (headed (fun e => (x (ix2 r ⟨1536 + (1024 + (q.val / 128 * 128 + e.val)), by omega⟩) : EReal) * taps (fun p => (x (ix2 ⟨r.val / 2048 * 2048 + p.val, by omega⟩ ⟨1536 + (2048 + (q.val / 128 * 128 + e.val)), by omega⟩) : EReal) * (x (ix2 ⟨r.val / 2048 * 2048 + p.val, by omega⟩ ⟨1536 + (q.val / 128 * 128 + e.val), by omega⟩) : EReal))
      (w (ix2 0 ⟨q.val / 128 * 128 + e.val, by omega⟩)) (w (ix2 1 ⟨q.val / 128 * 128 + e.val, by omega⟩)) (w (ix2 2 ⟨q.val / 128 * 128 + e.val, by omega⟩)) ⟨r.val % 2048, by omega⟩) (g (ix1 q)) ⟨q.val % 128, by omega⟩) := by
  rw [last_apply]
  simp only [gated_apply]
  have e : (⟨r.val / 2048 * 2048 + r.val % 2048, by omega⟩ : Fin 16384) = r := Fin.ext (by show r.val / 2048 * 2048 + r.val % 2048 = r.val; omega)
  simp only [e]

end Cert.Reference6Ideal.Conv
-- ==== Proof.ConvClaims.lean ====
/- The claims about the short convolution call. -/
module

public import proofs.«01_k».proof.Defs
public import proofs.«01_k».proof.Proof.ConvArray
public import proofs.«01_k».proof.Proof.ConvRef
public import proofs.«01_k».proof.Proof.Gen.Kernel6.Frame
public import Idealize.ShloMosaic.Lib.Claim

@[expose] public section
set_option maxRecDepth 16384
noncomputable section
namespace Cert.Proof.Conv
open Idealize.ShloMosaic Idealize.ShloMosaic.TcCoe Idealize.SL.Sem
open Cert.Modulated

/-- The reference runs to quiescence, its arguments unchanged. -/
theorem frame_r : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- Over the extended reals the kernel and the reference end with the same array: the gated short convolution of the arguments, each group of channels normalized. -/
theorem algebraic : Cert.algebraic_Kernel6Ideal_Reference6Ideal := by
  intro m g m' g' _ hag
  refine ⟨fun c => fun i : Cert.Kernel6Ideal.S16384x1024.Idx => Cert.Kernel6Ideal.Conv.goal m c (i 0) (i 1), ?_, ?_⟩
  · exact (θ_run Cert.Kernel6Ideal.defs _ _).mono (fun r h c => ⟨((h c).1).trans (Cert.Kernel6Ideal.Conv.array_eq m c), (h c).2⟩)
      (Cert.Kernel6Ideal.Value.run_blocks (F := Ideal) m g)
  · refine (θ_run Cert.Reference6Ideal.defs _ _).mono (fun r h c => ⟨((h c).1).trans ((Cert.Reference6Ideal.Conv.res_eq m' c).trans (funext fun y => ?_)), (h c).2⟩) (Cert.Reference6Ideal.Value.run (F := Ideal) m' g')
    obtain ⟨h0, h1, h2⟩ := hag c
    obtain ⟨p, q, rfl⟩ : ∃ (p : Fin 16384) (q : Fin 1024), y = ix2 p q := ⟨y 0, y 1, ix2_of rfl rfl⟩
    refine (Cert.Reference6Ideal.Conv.put (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)) p q).trans ?_
    rw [h0, h1, h2]
    rfl

end Cert.Proof.Conv
-- ==== Proof.AdaArray.lean ====
/- The array the modulation call ends with. -/
module

public import proofs.«01_k».proof.Proof.Gen.Kernel7Ideal.Value
public import proofs.«01_k».proof.Proof.ModMath
public import Idealize.ShloMosaic.Lib.Pipeline.ValueKit
public import Idealize.ShloMosaic.Lib.Pipeline.ReadBack
public import Idealize.ShloMosaic.Lib.StableHlo.ReadAt

@[expose] public section
set_option maxRecDepth 16384
noncomputable section
namespace Cert.Kernel7Ideal.Ada
open Cert.Kernel7Ideal Cert.Kernel7Ideal.Gen Idealize.ShloMosaic Idealize.ShloMosaic.TcCoe Idealize.SL.Sem
open Cert.Experts Cert.Modulated

/-- The stored block: the gated conditioning times one tile of a layer's weights, plus the bias. -/
theorem pay_apply (x : Vec Ideal S8x2048 .f32) (w : Vec Ideal S1x2048x1024 .f32) (z : Vec Ideal S1x1x1024 .f32) (b : Fin 8) (j : Fin 1024) :
    @Eq EReal (k0_pay1 x w z (ix3 0 b j))
      ((∑ k, ((x (ix2 b k) : EReal) * sg (x (ix2 b k))) * (w (ix3 0 k j) : EReal)) + (z (ix3 0 0 j) : EReal)) := by
  unfold sg
  simp only [← zsub]
  pointwise [k0_pay1]

variable (m : (ℓ : Loc nD τ sig) → Buf (Elt Ideal) ℓ)

/-- The bias as staged is the argument. -/
theorem V0_apply (c : Dev nD) (l : Fin 2) (j : Fin 12288) : @Eq EReal (V m c main_v0 (ix3 l 0 j)) (m ((c : Thread nD τ).loc main_arg2) (ix2 l j)) := by
  unfold V
  after_reads_at

/-- Which blocks a point works on: point `t` is layer `t / 12`, column tile `t % 12`. -/
theorem indices : ∀ t : Fin cfg0.N,
    (win0_0.index t 0 = 0 ∧ win0_0.index t 1 = 0)
    ∧ (win0_1.index t 0 = t.val / 12 ∧ win0_1.index t 1 = 0 ∧ win0_1.index t 2 = t.val % 12)
    ∧ (win0_2.index t 0 = t.val / 12 ∧ win0_2.index t 1 = 0 ∧ win0_2.index t 2 = t.val % 12)
    ∧ (win0_3.index t 0 = t.val / 12 ∧ win0_3.index t 1 = 0 ∧ win0_3.index t 2 = t.val % 12) :=
  (by decide +kernel : ∀ t : Fin grid0.N, _)

theorem t_lt (t : Fin cfg0.N) : t.val < 24 := lt_of_lt_of_eq t.isLt N_0

/-- The arguments by coordinates. -/
abbrev C (c : Dev nD) (b : Fin 8) (k : Fin 2048) : EReal := m ((c : Thread nD τ).loc main_arg0) (ix2 b k)
abbrev W (c : Dev nD) (l : Fin 2) (k : Fin 2048) (j : Fin 12288) : EReal := m ((c : Thread nD τ).loc main_arg1) (ix3 l k j)
abbrev B (c : Dev nD) (l : Fin 2) (j : Fin 12288) : EReal := m ((c : Thread nD τ).loc main_arg2) (ix2 l j)

theorem blk_c (c : Dev nD) (t : Fin cfg0.N) (b : Fin 8) (k : Fin 2048) : @Eq EReal (iblk m c 0 t (ix2 b k)) (C m c b k) := by
  unfold iblk
  rw [View.read_apply]
  show V m c main_arg0 _ = _
  rw [V_main_arg0]
  refine congrArg (m _) (ix2_of ?_ ?_)
  · show win0_0.index t 0 * 8 + 1 * b.val = _; rw [(indices t).1.1]; omega
  · show win0_0.index t 1 * 2048 + 1 * k.val = _; rw [(indices t).1.2]; omega

theorem blk_w (c : Dev nD) (t : Fin cfg0.N) (k : Fin 2048) (j : Fin 1024) : @Eq EReal (iblk m c 1 t (ix3 0 k j))
    (W m c ⟨t.val / 12, by have := t_lt t; omega⟩ k ⟨t.val % 12 * 1024 + j.val, by omega⟩) := by
  unfold iblk
  rw [View.read_apply]
  show V m c main_arg1 _ = _
  rw [V_main_arg1]
  refine congrArg (m _) (ix3_of ?_ ?_ ?_)
  · show win0_1.index t 0 * 1 + 1 * 0 = _; rw [(indices t).2.1.1]; dsimp only; omega
  · show win0_1.index t 1 * 2048 + 1 * k.val = _; rw [(indices t).2.1.2.1]; omega
  · show win0_1.index t 2 * 1024 + 1 * j.val = _; rw [(indices t).2.1.2.2]; dsimp only; omega

theorem blk_b (c : Dev nD) (t : Fin cfg0.N) (j : Fin 1024) : @Eq EReal (iblk m c 2 t (ix3 0 0 j))
    (B m c ⟨t.val / 12, by have := t_lt t; omega⟩ ⟨t.val % 12 * 1024 + j.val, by omega⟩) := by
  refine Eq.trans ?_ (V0_apply m c _ _)
  unfold iblk
  rw [View.read_apply]
  refine congrArg (V m c main_v0) (ix3_of ?_ ?_ ?_)
  · show win0_2.index t 0 * 1 + 1 * 0 = _; rw [(indices t).2.2.1.1]; dsimp only; omega
  · show win0_2.index t 1 * 1 + 1 * 0 = _; rw [(indices t).2.2.1.2.1]; rfl
  · show win0_2.index t 2 * 1024 + 1 * j.val = _; rw [(indices t).2.2.1.2.2]; dsimp only; omega

/-- What every point leaves in the output's block. -/
theorem out_eq (c : Dev nD) (t : Fin cfg0.N) :
    (dats m 0 c).after 3 t = k0_pay1 (iblk m c 0 t) (iblk m c 1 t) (iblk m c 2 t) := by
  rw [after0_3]
  frame_out

/-- The modulation parameters of the arguments as launched. -/
def goal (c : Dev nD) (l : Fin 2) (b : Fin 8) (j : Fin 12288) : EReal :=
  (∑ k, (C m c b k * sg (C m c b k)) * W m c l k j) + B m c l j

/-- A place of a point's block is the parameter at that place of the array. -/
theorem out_goal (c : Dev nD) (t : Fin cfg0.N) (b : Fin 8) (j : Fin 1024) :
    @Eq EReal (k0_pay1 (iblk m c 0 t) (iblk m c 1 t) (iblk m c 2 t) (ix3 0 b j))
    (goal m c ⟨t.val / 12, by have := t_lt t; omega⟩ b ⟨t.val % 12 * 1024 + j.val, by omega⟩) := by
  rw [pay_apply]
  simp only [blk_c, blk_w, blk_b]
  rfl

/-- The kernel's array after the run is the modulation of its arguments. -/
theorem array_eq (c : Dev nD) : (dats m 0 c).arrAt 3 cfg0.N = fun i : S2x8x12288.Idx => goal m c (i 0) (i 1) (i 2) := by
  refine (dats m 0 c).arrAt_eq_of_covers 3 _ (by decide +kernel) fun t hf y => ?_
  blk_simp
  rw [out_eq]
  obtain ⟨r, k, rfl⟩ : ∃ (r : Fin 8) (k : Fin 1024), y = ix3 0 r k :=
    ⟨y 1, y 2, ix3_of (by have h : (y 0).val < 1 := (y 0).isLt; show (y 0).val = 0; omega) rfl rfl⟩
  refine (out_goal m c t r k).trans ?_
  have e0 : (⟨t.val / 12, by have := t_lt t; omega⟩ : Fin 2) = ⟨win0_3.index t 0 * 1 + 1 * 0, by rw [(indices t).2.2.2.1]; have := t_lt t; omega⟩ :=
    Fin.ext (by show t.val / 12 = win0_3.index t 0 * 1 + 1 * 0; rw [(indices t).2.2.2.1]; omega)
  have e1 : r = (⟨win0_3.index t 1 * 8 + 1 * r.val, by rw [(indices t).2.2.2.2.1]; omega⟩ : Fin 8) :=
    Fin.ext (by show r.val = win0_3.index t 1 * 8 + 1 * r.val; rw [(indices t).2.2.2.2.1]; omega)
  have e2 : (⟨t.val % 12 * 1024 + k.val, by omega⟩ : Fin 12288) = ⟨win0_3.index t 2 * 1024 + 1 * k.val, by rw [(indices t).2.2.2.2.2]; omega⟩ :=
    Fin.ext (by show t.val % 12 * 1024 + k.val = win0_3.index t 2 * 1024 + 1 * k.val; rw [(indices t).2.2.2.2.2]; omega)
  exact (congrArg (fun l => goal m c l r _) e0).trans ((congrArg (fun b => goal m c _ b _) e1).trans (congrArg (fun j => goal m c _ _ j) e2))

end Cert.Kernel7Ideal.Ada
-- ==== Proof.AdaRef.lean ====
/- The modulation reference's result, entry by entry. -/
module

public import proofs.«01_k».proof.Proof.Gen.Reference7Ideal.Run
public import proofs.«01_k».proof.Proof.ModMath
public import Idealize.ShloMosaic.Lib.KernelVsHost

@[expose] public section
set_option maxRecDepth 16384
noncomputable section
namespace Cert.Reference7Ideal.Ada
open Cert.Reference7Ideal Cert.Reference7Ideal.Gen Cert.Reference7Ideal.Value Idealize.ShloMosaic Idealize.ShloMosaic.TcCoe Idealize.SL.Sem
open Cert.Experts Cert.Modulated

variable (x : Vec Ideal S8x2048 .f32) (w : Vec Ideal S2x2048x12288 .f32) (z : Vec Ideal S2x12288 .f32)

/-- The conditioning times its logistic. -/
def act : FVec Ideal S8x2048 .f32 :=
  mulf x (Host.divf (broadcastInDim S8x2048 ![] bcast_S_S8x2048 (constant S_ .f32 0x3F800000#32)) (addf (broadcastInDim S8x2048 ![] bcast_S_S8x2048 (constant S_ .f32 0x3F800000#32)) (Host.exp (Host.negf x))))

theorem act_apply (b : Fin 8) (k : Fin 2048) : @Eq EReal (act x (ix2 b k)) ((x (ix2 b k) : EReal) * sg (x (ix2 b k))) := by
  pointwise [act]
  unfold sg
  rfl

/-- The first layer's parameters, of the gated conditioning. -/
def layer0 (a : FVec Ideal S8x2048 .f32) : FVec Ideal S1x8x12288 .f32 :=
  broadcastInDim S1x8x12288 ![1, 2] bcast_S8x12288_S1x8x12288_1_2 (addf (Host.dotGeneral (φ₁ := .f32) (φ₂ := .f32) dot_S8x2048_S2048x12288_S8x12288_1_0_0_1_n_n none a (shapeCast _ (extractStridedSlice S1x2048x12288 ![0, 0, 0] w slices_S2x2048x12288_S1x2048x12288_0_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![0, 0] z slices_S2x12288_S1x12288_0_0) shapeCasts_S1x12288_S12288))))

theorem layer0_apply (a : FVec Ideal S8x2048 .f32) (b : Fin 8) (j : Fin 12288) : @Eq EReal (layer0 w z a (ix3 0 b j))
    ((∑ k, (a (ix2 b k) : EReal) * (w (ix3 0 k j) : EReal)) + (z (ix2 0 j) : EReal)) := by
  pointwise [layer0]

/-- The second layer's parameters, of the gated conditioning. -/
def layer1 (a : FVec Ideal S8x2048 .f32) : FVec Ideal S1x8x12288 .f32 :=
  broadcastInDim S1x8x12288 ![1, 2] bcast_S8x12288_S1x8x12288_1_2 (addf (Host.dotGeneral (φ₁ := .f32) (φ₂ := .f32) dot_S8x2048_S2048x12288_S8x12288_1_0_0_1_n_n none a (shapeCast _ (extractStridedSlice S1x2048x12288 ![1, 0, 0] w slices_S2x2048x12288_S1x2048x12288_1_0_0) shapeCasts_S1x2048x12288_S2048x12288)) (broadcastInDim S8x12288 ![0, 1] bcast_S1x12288_S8x12288_0_1 (broadcastInDim S1x12288 ![1] bcast_S12288_S1x12288_1 (shapeCast _ (extractStridedSlice S1x12288 ![1, 0] z slices_S2x12288_S1x12288_1_0) shapeCasts_S1x12288_S12288))))

theorem layer1_apply (a : FVec Ideal S8x2048 .f32) (b : Fin 8) (j : Fin 12288) : @Eq EReal (layer1 w z a (ix3 0 b j))
    ((∑ k, (a (ix2 b k) : EReal) * (w (ix3 1 k j) : EReal)) + (z (ix2 1 j) : EReal)) := by
  pointwise [layer1]

/-- The two layers' parameters, one after the other. -/
def pair (p q : FVec Ideal S1x8x12288 .f32) : FVec Ideal S2x8x12288 .f32 :=
  concatenate S2x8x12288 0 [⟨S1x8x12288, p⟩, ⟨S1x8x12288, q⟩] concatenates_S1x8x12288_S1x8x12288_S2x8x12288_d0

theorem pair_left (p q : FVec Ideal S1x8x12288 .f32) (b : Fin 8) (j : Fin 12288) : @Eq EReal (pair p q (ix3 0 b j)) (p (ix3 0 b j)) := by
  pointwise [pair]

theorem pair_right (p q : FVec Ideal S1x8x12288 .f32) (b : Fin 8) (j : Fin 12288) : @Eq EReal (pair p q (ix3 1 b j)) (q (ix3 0 b j)) := by
  pointwise [pair]

/-- An entry of the result is the modulation of the arguments. -/
theorem put (l : Fin 2) (b : Fin 8) (j : Fin 12288) : @Eq EReal (pair (layer0 w z (act x)) (layer1 w z (act x)) (ix3 l b j))
    ((∑ k, ((x (ix2 b k) : EReal) * sg (x (ix2 b k))) * (w (ix3 l k j) : EReal)) + (z (ix2 l j) : EReal)) := by
  match l with
  | 0 => rw [pair_left, layer0_apply]; simp only [act_apply]
  | 1 => rw [pair_right, layer1_apply]; simp only [act_apply]

end Cert.Reference7Ideal.Ada
-- ==== Proof.AdaClaims.lean ====
/- The claims about the modulation call. -/
module

public import proofs.«01_k».proof.Defs
public import proofs.«01_k».proof.Proof.AdaArray
public import proofs.«01_k».proof.Proof.AdaRef
public import proofs.«01_k».proof.Proof.Gen.Kernel7.Frame
public import Idealize.ShloMosaic.Lib.Claim

@[expose] public section
set_option maxRecDepth 16384
noncomputable section
namespace Cert.Proof.Ada
open Idealize.ShloMosaic Idealize.ShloMosaic.TcCoe Idealize.SL.Sem
open Cert.Modulated

/-- The reference runs to quiescence, its arguments unchanged. -/
theorem frame_r : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- Over the extended reals the kernel and the reference end with the same array: both layers' modulation parameters. -/
theorem algebraic : Cert.algebraic_Kernel7Ideal_Reference7Ideal := by
  intro m g m' g' _ hag
  refine ⟨fun c => fun i : Cert.Kernel7Ideal.S2x8x12288.Idx => Cert.Kernel7Ideal.Ada.goal m c (i 0) (i 1) (i 2), ?_, ?_⟩
  · exact (θ_run Cert.Kernel7Ideal.defs _ _).mono (fun r h c => ⟨((h c).1).trans (Cert.Kernel7Ideal.Ada.array_eq m c), (h c).2⟩)
      (Cert.Kernel7Ideal.Value.run_blocks (F := Ideal) m g)
  · refine (θ_run Cert.Reference7Ideal.defs _ _).mono (fun r h c => ⟨((h c).1).trans (funext fun y => ?_), (h c).2⟩) (Cert.Reference7Ideal.Value.run (F := Ideal) m' g')
    obtain ⟨h0, h1, h2⟩ := hag c
    obtain ⟨l, b, j, rfl⟩ : ∃ (l : Fin 2) (b : Fin 8) (j : Fin 12288), y = ix3 l b j := ⟨y 0, y 1, y 2, ix3_of rfl rfl rfl⟩
    refine (Cert.Reference7Ideal.Ada.put (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2)) l b j).trans ?_
    rw [h0, h1, h2]
    rfl

end Cert.Proof.Ada
-- ==== Proof.lean ====
/- The certificate's claims, each proved by a theorem of the modules under Proof/: for each of the seven calls — attention,
   experts, dense feed-forward, in-projection, out-projection, short convolution, modulation — the frames, and that the
   kernel and the reference end with the same array over the extended reals. -/
module

public import proofs.«01_k».proof.Defs
public import proofs.«01_k».proof.Proof.Claims
public import proofs.«01_k».proof.Proof.MoeClaims
public import proofs.«01_k».proof.Proof.FfnClaims
public import proofs.«01_k».proof.Proof.InpClaims
public import proofs.«01_k».proof.Proof.OutClaims
public import proofs.«01_k».proof.Proof.ConvClaims
public import proofs.«01_k».proof.Proof.AdaClaims

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_experts_named.Gen.facts,
  fun m ρ _ => Cert.Kernel.Gen.frame m ρ, fun m ρ _ => Cert.KernelIdeal.Gen.frame m ρ, Att.frame_r,
  Moe.frame_k, Moe.frame_i, Moe.frame_r,
  fun m ρ _ => Cert.Kernel3.Gen.frame m ρ, fun m ρ _ => Cert.Kernel3Ideal.Gen.frame m ρ, Ffn.frame_r,
  fun m ρ _ => Cert.Kernel4.Gen.frame m ρ, fun m ρ _ => Cert.Kernel4Ideal.Gen.frame m ρ, Inp.frame_r,
  fun m ρ _ => Cert.Kernel5.Gen.frame m ρ, fun m ρ _ => Cert.Kernel5Ideal.Gen.frame m ρ, Outp.frame_r,
  fun m ρ _ => Cert.Kernel6.Gen.frame m ρ, fun m ρ _ => Cert.Kernel6Ideal.Gen.frame m ρ, Conv.frame_r,
  fun m ρ _ => Cert.Kernel7.Gen.frame m ρ, fun m ρ _ => Cert.Kernel7Ideal.Gen.frame m ρ, Ada.frame_r,
  trivial, Att.algebraic, trivial, Moe.algebraic, trivial, Ffn.algebraic, trivial, Inp.algebraic,
  trivial, Outp.algebraic, trivial, Conv.algebraic, trivial, Ada.algebraic⟩

end Cert.Proof

end
